-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8192x4096 : Shape := ⟨2, ![8192, 4096]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S8192x4096 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 4096#32
  let main_v3 : IVec S4096 32 := broadcastInDim S4096 ![] bcast_S_S4096 main_c_1
  let main_v4 : IVec S4096 1 := cmpi .slt main_arg1 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  main_v6
-- ==== Kernel.lean ====
abbrev S8192x4096 : Shape := ⟨2, ![8192, 4096]⟩
abbrev S4096 : Shape := ⟨1, ![4096]⟩
abbrev S8x4096 : Shape := ⟨2, ![8, 4096]⟩
abbrev S4x4096 : Shape := ⟨2, ![4, 4096]⟩
abbrev S_ : Shape := ⟨0, ![]⟩
abbrev S16 : Shape := ⟨1, ![16]⟩
abbrev S1x16 : Shape := ⟨2, ![1, 16]⟩

abbrev nBuf : Table → Nat
  | .hbm => 3
  | .local .scVector .vmem => 5
  | _ => 0

abbrev bufTy : (tb : Table) → Fin (nBuf tb) → BufTy
  | .hbm, ⟨0, _⟩ => ⟨S8192x4096, .f32⟩
  | .hbm, ⟨1, _⟩ => ⟨S4096, .i32⟩
  | .hbm, ⟨2, _⟩ => ⟨S8192x4096, .f32⟩
  | .local .scVector .vmem, ⟨0, _⟩ => ⟨S4096, .i32⟩
  | .local .scVector .vmem, ⟨1, _⟩ => ⟨S8x4096, .f32⟩
  | .local .scVector .vmem, ⟨2, _⟩ => ⟨S8x4096, .f32⟩
  | .local .scVector .vmem, ⟨3, _⟩ => ⟨S4x4096, .f32⟩
  | .local .scVector .vmem, ⟨4, _⟩ => ⟨S4x4096, .f32⟩
  | _, _ => ⟨S8192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let v3 : BitVec 32 := Scalar.addi v2 c0_i32
  let c0_i32_0 : BitVec 32 := 0#32
  ![v3.toNat, 0]
@[reducible] def k0_t1_loop : Scf.Loop 32 :=
  let c0_i32_2 : BitVec 32 := 0#32
  let c16_i32 : BitVec 32 := 16#32
  let v6 : BitVec 32 := Scalar.addi c0_i32_2 c16_i32
  let c1_i32 : BitVec 32 := 1#32
  ⟨c0_i32_2, v6, c1_i32⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c1_i32_11 : BitVec 32 := 1#32
  let v16 : BitVec 32 := Scalar.addi v15 c1_i32_11
  let c8_i32 : BitVec 32 := 8#32
  let v17 : BitVec 32 := Scalar.muli v16 c8_i32
  let v18 : BitVec 32 := Scalar.addi v2 v17
  let c0_i32_12 : BitVec 32 := 0#32
  ![v18.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c8_i32_14 : BitVec 32 := 8#32
  let v21 : BitVec 32 := Scalar.muli v15 c8_i32_14
  let v22 : BitVec 32 := Scalar.addi v2 v21
  let c0_i32_15 : BitVec 32 := 0#32
  ![v22.toNat, 0]
def k0_cond1 (k0_t1 : Fin k0_t1_loop.trips) : BitVec 1 :=
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c1_i32_17 : BitVec 32 := 1#32
  let v25 : BitVec 1 := Scalar.cmpi .sge v15 c1_i32_17
  let v26 : BitVec 32 := Scalar.extui v25
  let c0_i32_18 : BitVec 32 := 0#32
  let v27 : BitVec 1 := Scalar.cmpi .ne v26 c0_i32_18
  v27

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c1_i32_78 : BitVec 32 := 1#32
  let v89 : BitVec 32 := Scalar.subi v15 c1_i32_78
  let c8_i32_79 : BitVec 32 := 8#32
  let v90 : BitVec 32 := Scalar.muli v89 c8_i32_79
  let v91 : BitVec 32 := Scalar.addi v2 v90
  let c0_i32_80 : BitVec 32 := 0#32
  ![v91.toNat, 0]
@[reducible] def k0_t2_loop : Scf.Loop 32 :=
  let c0_i32_22 : BitVec 32 := 0#32
  let c32_i32 : BitVec 32 := 32#32
  let v32 : BitVec 32 := Scalar.addi c0_i32_22 c32_i32
  let c1_i32_23 : BitVec 32 := 1#32
  ⟨c0_i32_22, v32, c1_i32_23⟩
def k0_off5 (k0_t2 : Fin k0_t2_loop.trips) (c0_i32_81 : BitVec 32) : Fin 1 → Nat :=
  let c0_i32_79 : BitVec 32 := 0#32
  let c0_i32_22 : BitVec 32 := 0#32
  let c1_i32_23 : BitVec 32 := 1#32
  let arg15 : BitVec 32 := Scf.iv c0_i32_22 c1_i32_23 k0_t2
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v92 : BitVec 32 := Scalar.addi v91 c0_i32_81
  let v93 : Index := Scalar.indexCast v92
  ![v93.toNat]

def k0_chk1 (v28 : IVec S16 32) (v29 : IVec S16 32) (v30 : IVec S16 32) (v31 : IVec S16 32) (v94 : IVec S16 32) : Prop :=
  (∀ a x, ((![v28, v94] : Fin 2 → IVec S16 32) a x).toNat < S8x4096.size a) ∧
  (∀ a x, ((![v29, v94] : Fin 2 → IVec S16 32) a x).toNat < S8x4096.size a) ∧
  (∀ a x, ((![v30, v94] : Fin 2 → IVec S16 32) a x).toNat < S8x4096.size a) ∧
  (∀ a x, ((![v31, v94] : Fin 2 → IVec S16 32) a x).toNat < S8x4096.size a)
theorem k0_idx1_inb : ∀ (v28 : IVec S16 32) (v29 : IVec S16 32) (v30 : IVec S16 32) (v31 : IVec S16 32) (v94 : IVec S16 32) (k0_hw1 : k0_chk1 v28 v29 v30 v31 v94), ∀ a x, ((![v28, v94] : Fin 2 → IVec S16 32) a x).toNat < S8x4096.size a := fun v28 v29 v30 v31 v94 k0_hw1 => k0_hw1.1
theorem k0_idx9_inb : ∀ (v28 : IVec S16 32) (v29 : IVec S16 32) (v30 : IVec S16 32) (v31 : IVec S16 32) (v94 : IVec S16 32) (k0_hw1 : k0_chk1 v28 v29 v30 v31 v94), ∀ a x, ((![v29, v94] : Fin 2 → IVec S16 32) a x).toNat < S8x4096.size a := fun v28 v29 v30 v31 v94 k0_hw1 => k0_hw1.2.1
theorem k0_idx17_inb : ∀ (v28 : IVec S16 32) (v29 : IVec S16 32) (v30 : IVec S16 32) (v31 : IVec S16 32) (v94 : IVec S16 32) (k0_hw1 : k0_chk1 v28 v29 v30 v31 v94), ∀ a x, ((![v30, v94] : Fin 2 → IVec S16 32) a x).toNat < S8x4096.size a := fun v28 v29 v30 v31 v94 k0_hw1 => k0_hw1.2.2.1
theorem k0_idx25_inb : ∀ (v28 : IVec S16 32) (v29 : IVec S16 32) (v30 : IVec S16 32) (v31 : IVec S16 32) (v94 : IVec S16 32) (k0_hw1 : k0_chk1 v28 v29 v30 v31 v94), ∀ a x, ((![v31, v94] : Fin 2 → IVec S16 32) a x).toNat < S8x4096.size a := fun v28 v29 v30 v31 v94 k0_hw1 => k0_hw1.2.2.2

def k0_chk2 (v28 : IVec S16 32) (v29 : IVec S16 32) (v30 : IVec S16 32) (v31 : IVec S16 32) (v97 : IVec S16 32) : Prop :=
  (∀ a x, ((![v28, v97] : Fin 2 → IVec S16 32) a x).toNat < S8x4096.size a) ∧
  (∀ a x, ((![v29, v97] : Fin 2 → IVec S16 32) a x).toNat < S8x4096.size a) ∧
  (∀ a x, ((![v30, v97] : Fin 2 → IVec S16 32) a x).toNat < S8x4096.size a) ∧
  (∀ a x, ((![v31, v97] : Fin 2 → IVec S16 32) a x).toNat < S8x4096.size a)
theorem k0_idx2_inb : ∀ (v28 : IVec S16 32) (v29 : IVec S16 32) (v30 : IVec S16 32) (v31 : IVec S16 32) (v97 : IVec S16 32) (k0_hw2 : k0_chk2 v28 v29 v30 v31 v97), ∀ a x, ((![v28, v97] : Fin 2 → IVec S16 32) a x).toNat < S8x4096.size a := fun v28 v29 v30 v31 v97 k0_hw2 => k0_hw2.1
theorem k0_idx10_inb : ∀ (v28 : IVec S16 32) (v29 : IVec S16 32) (v30 : IVec S16 32) (v31 : IVec S16 32) (v97 : IVec S16 32) (k0_hw2 : k0_chk2 v28 v29 v30 v31 v97), ∀ a x, ((![v29, v97] : Fin 2 → IVec S16 32) a x).toNat < S8x4096.size a := fun v28 v29 v30 v31 v97 k0_hw2 => k0_hw2.2.1
theorem k0_idx18_inb : ∀ (v28 : IVec S16 32) (v29 : IVec S16 32) (v30 : IVec S16 32) (v31 : IVec S16 32) (v97 : IVec S16 32) (k0_hw2 : k0_chk2 v28 v29 v30 v31 v97), ∀ a x, ((![v30, v97] : Fin 2 → IVec S16 32) a x).toNat < S8x4096.size a := fun v28 v29 v30 v31 v97 k0_hw2 => k0_hw2.2.2.1
theorem k0_idx26_inb : ∀ (v28 : IVec S16 32) (v29 : IVec S16 32) (v30 : IVec S16 32) (v31 : IVec S16 32) (v97 : IVec S16 32) (k0_hw2 : k0_chk2 v28 v29 v30 v31 v97), ∀ a x, ((![v31, v97] : Fin 2 → IVec S16 32) a x).toNat < S8x4096.size a := fun v28 v29 v30 v31 v97 k0_hw2 => k0_hw2.2.2.2

def k0_chk3 (v28 : IVec S16 32) (v29 : IVec S16 32) (v30 : IVec S16 32) (v31 : IVec S16 32) (v100 : IVec S16 32) : Prop :=
  (∀ a x, ((![v28, v100] : Fin 2 → IVec S16 32) a x).toNat < S8x4096.size a) ∧
  (∀ a x, ((![v29, v100] : Fin 2 → IVec S16 32) a x).toNat < S8x4096.size a) ∧
  (∀ a x, ((![v30, v100] : Fin 2 → IVec S16 32) a x).toNat < S8x4096.size a) ∧
  (∀ a x, ((![v31, v100] : Fin 2 → IVec S16 32) a x).toNat < S8x4096.size a)
theorem k0_idx3_inb : ∀ (v28 : IVec S16 32) (v29 : IVec S16 32) (v30 : IVec S16 32) (v31 : IVec S16 32) (v100 : IVec S16 32) (k0_hw3 : k0_chk3 v28 v29 v30 v31 v100), ∀ a x, ((![v28, v100] : Fin 2 → IVec S16 32) a x).toNat < S8x4096.size a := fun v28 v29 v30 v31 v100 k0_hw3 => k0_hw3.1
theorem k0_idx11_inb : ∀ (v28 : IVec S16 32) (v29 : IVec S16 32) (v30 : IVec S16 32) (v31 : IVec S16 32) (v100 : IVec S16 32) (k0_hw3 : k0_chk3 v28 v29 v30 v31 v100), ∀ a x, ((![v29, v100] : Fin 2 → IVec S16 32) a x).toNat < S8x4096.size a := fun v28 v29 v30 v31 v100 k0_hw3 => k0_hw3.2.1
theorem k0_idx19_inb : ∀ (v28 : IVec S16 32) (v29 : IVec S16 32) (v30 : IVec S16 32) (v31 : IVec S16 32) (v100 : IVec S16 32) (k0_hw3 : k0_chk3 v28 v29 v30 v31 v100), ∀ a x, ((![v30, v100] : Fin 2 → IVec S16 32) a x).toNat < S8x4096.size a := fun v28 v29 v30 v31 v100 k0_hw3 => k0_hw3.2.2.1
theorem k0_idx27_inb : ∀ (v28 : IVec S16 32) (v29 : IVec S16 32) (v30 : IVec S16 32) (v31 : IVec S16 32) (v100 : IVec S16 32) (k0_hw3 : k0_chk3 v28 v29 v30 v31 v100), ∀ a x, ((![v31, v100] : Fin 2 → IVec S16 32) a x).toNat < S8x4096.size a := fun v28 v29 v30 v31 v100 k0_hw3 => k0_hw3.2.2.2

def k0_chk4 (v28 : IVec S16 32) (v29 : IVec S16 32) (v30 : IVec S16 32) (v31 : IVec S16 32) (v103 : IVec S16 32) : Prop :=
  (∀ a x, ((![v28, v103] : Fin 2 → IVec S16 32) a x).toNat < S8x4096.size a) ∧
  (∀ a x, ((![v29, v103] : Fin 2 → IVec S16 32) a x).toNat < S8x4096.size a) ∧
  (∀ a x, ((![v30, v103] : Fin 2 → IVec S16 32) a x).toNat < S8x4096.size a) ∧
  (∀ a x, ((![v31, v103] : Fin 2 → IVec S16 32) a x).toNat < S8x4096.size a)
theorem k0_idx4_inb : ∀ (v28 : IVec S16 32) (v29 : IVec S16 32) (v30 : IVec S16 32) (v31 : IVec S16 32) (v103 : IVec S16 32) (k0_hw4 : k0_chk4 v28 v29 v30 v31 v103), ∀ a x, ((![v28, v103] : Fin 2 → IVec S16 32) a x).toNat < S8x4096.size a := fun v28 v29 v30 v31 v103 k0_hw4 => k0_hw4.1
theorem k0_idx12_inb : ∀ (v28 : IVec S16 32) (v29 : IVec S16 32) (v30 : IVec S16 32) (v31 : IVec S16 32) (v103 : IVec S16 32) (k0_hw4 : k0_chk4 v28 v29 v30 v31 v103), ∀ a x, ((![v29, v103] : Fin 2 → IVec S16 32) a x).toNat < S8x4096.size a := fun v28 v29 v30 v31 v103 k0_hw4 => k0_hw4.2.1
theorem k0_idx20_inb : ∀ (v28 : IVec S16 32) (v29 : IVec S16 32) (v30 : IVec S16 32) (v31 : IVec S16 32) (v103 : IVec S16 32) (k0_hw4 : k0_chk4 v28 v29 v30 v31 v103), ∀ a x, ((![v30, v103] : Fin 2 → IVec S16 32) a x).toNat < S8x4096.size a := fun v28 v29 v30 v31 v103 k0_hw4 => k0_hw4.2.2.1
theorem k0_idx28_inb : ∀ (v28 : IVec S16 32) (v29 : IVec S16 32) (v30 : IVec S16 32) (v31 : IVec S16 32) (v103 : IVec S16 32) (k0_hw4 : k0_chk4 v28 v29 v30 v31 v103), ∀ a x, ((![v31, v103] : Fin 2 → IVec S16 32) a x).toNat < S8x4096.size a := fun v28 v29 v30 v31 v103 k0_hw4 => k0_hw4.2.2.2

def k0_chk5 (v28 : IVec S16 32) (v29 : IVec S16 32) (v30 : IVec S16 32) (v31 : IVec S16 32) (v106 : IVec S16 32) : Prop :=
  (∀ a x, ((![v28, v106] : Fin 2 → IVec S16 32) a x).toNat < S8x4096.size a) ∧
  (∀ a x, ((![v29, v106] : Fin 2 → IVec S16 32) a x).toNat < S8x4096.size a) ∧
  (∀ a x, ((![v30, v106] : Fin 2 → IVec S16 32) a x).toNat < S8x4096.size a) ∧
  (∀ a x, ((![v31, v106] : Fin 2 → IVec S16 32) a x).toNat < S8x4096.size a)
theorem k0_idx5_inb : ∀ (v28 : IVec S16 32) (v29 : IVec S16 32) (v30 : IVec S16 32) (v31 : IVec S16 32) (v106 : IVec S16 32) (k0_hw5 : k0_chk5 v28 v29 v30 v31 v106), ∀ a x, ((![v28, v106] : Fin 2 → IVec S16 32) a x).toNat < S8x4096.size a := fun v28 v29 v30 v31 v106 k0_hw5 => k0_hw5.1
theorem k0_idx13_inb : ∀ (v28 : IVec S16 32) (v29 : IVec S16 32) (v30 : IVec S16 32) (v31 : IVec S16 32) (v106 : IVec S16 32) (k0_hw5 : k0_chk5 v28 v29 v30 v31 v106), ∀ a x, ((![v29, v106] : Fin 2 → IVec S16 32) a x).toNat < S8x4096.size a := fun v28 v29 v30 v31 v106 k0_hw5 => k0_hw5.2.1
theorem k0_idx21_inb : ∀ (v28 : IVec S16 32) (v29 : IVec S16 32) (v30 : IVec S16 32) (v31 : IVec S16 32) (v106 : IVec S16 32) (k0_hw5 : k0_chk5 v28 v29 v30 v31 v106), ∀ a x, ((![v30, v106] : Fin 2 → IVec S16 32) a x).toNat < S8x4096.size a := fun v28 v29 v30 v31 v106 k0_hw5 => k0_hw5.2.2.1
theorem k0_idx29_inb : ∀ (v28 : IVec S16 32) (v29 : IVec S16 32) (v30 : IVec S16 32) (v31 : IVec S16 32) (v106 : IVec S16 32) (k0_hw5 : k0_chk5 v28 v29 v30 v31 v106), ∀ a x, ((![v31, v106] : Fin 2 → IVec S16 32) a x).toNat < S8x4096.size a := fun v28 v29 v30 v31 v106 k0_hw5 => k0_hw5.2.2.2

def k0_chk6 (v28 : IVec S16 32) (v29 : IVec S16 32) (v30 : IVec S16 32) (v31 : IVec S16 32) (v109 : IVec S16 32) : Prop :=
  (∀ a x, ((![v28, v109] : Fin 2 → IVec S16 32) a x).toNat < S8x4096.size a) ∧
  (∀ a x, ((![v29, v109] : Fin 2 → IVec S16 32) a x).toNat < S8x4096.size a) ∧
  (∀ a x, ((![v30, v109] : Fin 2 → IVec S16 32) a x).toNat < S8x4096.size a) ∧
  (∀ a x, ((![v31, v109] : Fin 2 → IVec S16 32) a x).toNat < S8x4096.size a)
theorem k0_idx6_inb : ∀ (v28 : IVec S16 32) (v29 : IVec S16 32) (v30 : IVec S16 32) (v31 : IVec S16 32) (v109 : IVec S16 32) (k0_hw6 : k0_chk6 v28 v29 v30 v31 v109), ∀ a x, ((![v28, v109] : Fin 2 → IVec S16 32) a x).toNat < S8x4096.size a := fun v28 v29 v30 v31 v109 k0_hw6 => k0_hw6.1
theorem k0_idx14_inb : ∀ (v28 : IVec S16 32) (v29 : IVec S16 32) (v30 : IVec S16 32) (v31 : IVec S16 32) (v109 : IVec S16 32) (k0_hw6 : k0_chk6 v28 v29 v30 v31 v109), ∀ a x, ((![v29, v109] : Fin 2 → IVec S16 32) a x).toNat < S8x4096.size a := fun v28 v29 v30 v31 v109 k0_hw6 => k0_hw6.2.1
theorem k0_idx22_inb : ∀ (v28 : IVec S16 32) (v29 : IVec S16 32) (v30 : IVec S16 32) (v31 : IVec S16 32) (v109 : IVec S16 32) (k0_hw6 : k0_chk6 v28 v29 v30 v31 v109), ∀ a x, ((![v30, v109] : Fin 2 → IVec S16 32) a x).toNat < S8x4096.size a := fun v28 v29 v30 v31 v109 k0_hw6 => k0_hw6.2.2.1
theorem k0_idx30_inb : ∀ (v28 : IVec S16 32) (v29 : IVec S16 32) (v30 : IVec S16 32) (v31 : IVec S16 32) (v109 : IVec S16 32) (k0_hw6 : k0_chk6 v28 v29 v30 v31 v109), ∀ a x, ((![v31, v109] : Fin 2 → IVec S16 32) a x).toNat < S8x4096.size a := fun v28 v29 v30 v31 v109 k0_hw6 => k0_hw6.2.2.2

def k0_chk7 (v28 : IVec S16 32) (v29 : IVec S16 32) (v30 : IVec S16 32) (v31 : IVec S16 32) (v112 : IVec S16 32) : Prop :=
  (∀ a x, ((![v28, v112] : Fin 2 → IVec S16 32) a x).toNat < S8x4096.size a) ∧
  (∀ a x, ((![v29, v112] : Fin 2 → IVec S16 32) a x).toNat < S8x4096.size a) ∧
  (∀ a x, ((![v30, v112] : Fin 2 → IVec S16 32) a x).toNat < S8x4096.size a) ∧
  (∀ a x, ((![v31, v112] : Fin 2 → IVec S16 32) a x).toNat < S8x4096.size a)
theorem k0_idx7_inb : ∀ (v28 : IVec S16 32) (v29 : IVec S16 32) (v30 : IVec S16 32) (v31 : IVec S16 32) (v112 : IVec S16 32) (k0_hw7 : k0_chk7 v28 v29 v30 v31 v112), ∀ a x, ((![v28, v112] : Fin 2 → IVec S16 32) a x).toNat < S8x4096.size a := fun v28 v29 v30 v31 v112 k0_hw7 => k0_hw7.1
theorem k0_idx15_inb : ∀ (v28 : IVec S16 32) (v29 : IVec S16 32) (v30 : IVec S16 32) (v31 : IVec S16 32) (v112 : IVec S16 32) (k0_hw7 : k0_chk7 v28 v29 v30 v31 v112), ∀ a x, ((![v29, v112] : Fin 2 → IVec S16 32) a x).toNat < S8x4096.size a := fun v28 v29 v30 v31 v112 k0_hw7 => k0_hw7.2.1
theorem k0_idx23_inb : ∀ (v28 : IVec S16 32) (v29 : IVec S16 32) (v30 : IVec S16 32) (v31 : IVec S16 32) (v112 : IVec S16 32) (k0_hw7 : k0_chk7 v28 v29 v30 v31 v112), ∀ a x, ((![v30, v112] : Fin 2 → IVec S16 32) a x).toNat < S8x4096.size a := fun v28 v29 v30 v31 v112 k0_hw7 => k0_hw7.2.2.1
theorem k0_idx31_inb : ∀ (v28 : IVec S16 32) (v29 : IVec S16 32) (v30 : IVec S16 32) (v31 : IVec S16 32) (v112 : IVec S16 32) (k0_hw7 : k0_chk7 v28 v29 v30 v31 v112), ∀ a x, ((![v31, v112] : Fin 2 → IVec S16 32) a x).toNat < S8x4096.size a := fun v28 v29 v30 v31 v112 k0_hw7 => k0_hw7.2.2.2

def k0_chk8 (v28 : IVec S16 32) (v29 : IVec S16 32) (v30 : IVec S16 32) (v31 : IVec S16 32) (v115 : IVec S16 32) : Prop :=
  (∀ a x, ((![v28, v115] : Fin 2 → IVec S16 32) a x).toNat < S8x4096.size a) ∧
  (∀ a x, ((![v29, v115] : Fin 2 → IVec S16 32) a x).toNat < S8x4096.size a) ∧
  (∀ a x, ((![v30, v115] : Fin 2 → IVec S16 32) a x).toNat < S8x4096.size a) ∧
  (∀ a x, ((![v31, v115] : Fin 2 → IVec S16 32) a x).toNat < S8x4096.size a)
theorem k0_idx8_inb : ∀ (v28 : IVec S16 32) (v29 : IVec S16 32) (v30 : IVec S16 32) (v31 : IVec S16 32) (v115 : IVec S16 32) (k0_hw8 : k0_chk8 v28 v29 v30 v31 v115), ∀ a x, ((![v28, v115] : Fin 2 → IVec S16 32) a x).toNat < S8x4096.size a := fun v28 v29 v30 v31 v115 k0_hw8 => k0_hw8.1
theorem k0_idx16_inb : ∀ (v28 : IVec S16 32) (v29 : IVec S16 32) (v30 : IVec S16 32) (v31 : IVec S16 32) (v115 : IVec S16 32) (k0_hw8 : k0_chk8 v28 v29 v30 v31 v115), ∀ a x, ((![v29, v115] : Fin 2 → IVec S16 32) a x).toNat < S8x4096.size a := fun v28 v29 v30 v31 v115 k0_hw8 => k0_hw8.2.1
theorem k0_idx24_inb : ∀ (v28 : IVec S16 32) (v29 : IVec S16 32) (v30 : IVec S16 32) (v31 : IVec S16 32) (v115 : IVec S16 32) (k0_hw8 : k0_chk8 v28 v29 v30 v31 v115), ∀ a x, ((![v30, v115] : Fin 2 → IVec S16 32) a x).toNat < S8x4096.size a := fun v28 v29 v30 v31 v115 k0_hw8 => k0_hw8.2.2.1
theorem k0_idx32_inb : ∀ (v28 : IVec S16 32) (v29 : IVec S16 32) (v30 : IVec S16 32) (v31 : IVec S16 32) (v115 : IVec S16 32) (k0_hw8 : k0_chk8 v28 v29 v30 v31 v115), ∀ a x, ((![v31, v115] : Fin 2 → IVec S16 32) a x).toNat < S8x4096.size a := fun v28 v29 v30 v31 v115 k0_hw8 => k0_hw8.2.2.2
def k0_off6 (k0_t2 : Fin k0_t2_loop.trips) (c0_i32_84 : BitVec 32) : Fin 2 → Nat :=
  let c0_i32_85 : BitVec 32 := 0#32
  let v149 : Index := Scalar.indexCast c0_i32_85
  let c0_i32_79 : BitVec 32 := 0#32
  let c0_i32_22 : BitVec 32 := 0#32
  let c1_i32_23 : BitVec 32 := 1#32
  let arg15 : BitVec 32 := Scf.iv c0_i32_22 c1_i32_23 k0_t2
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v148 : BitVec 32 := Scalar.addi v91 c0_i32_84
  let v150 : Index := Scalar.indexCast v148
  ![0, v150.toNat]
def k0_off7 (k0_t2 : Fin k0_t2_loop.trips) (c0_i32_100 : BitVec 32) : Fin 2 → Nat :=
  let c1_i32_101 : BitVec 32 := 1#32
  let v181 : Index := Scalar.indexCast c1_i32_101
  let c0_i32_79 : BitVec 32 := 0#32
  let c0_i32_22 : BitVec 32 := 0#32
  let c1_i32_23 : BitVec 32 := 1#32
  let arg15 : BitVec 32 := Scf.iv c0_i32_22 c1_i32_23 k0_t2
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v180 : BitVec 32 := Scalar.addi v91 c0_i32_100
  let v182 : Index := Scalar.indexCast v180
  ![1, v182.toNat]
def k0_off8 (k0_t2 : Fin k0_t2_loop.trips) (c0_i32_116 : BitVec 32) : Fin 2 → Nat :=
  let c2_i32_117 : BitVec 32 := 2#32
  let v213 : Index := Scalar.indexCast c2_i32_117
  let c0_i32_79 : BitVec 32 := 0#32
  let c0_i32_22 : BitVec 32 := 0#32
  let c1_i32_23 : BitVec 32 := 1#32
  let arg15 : BitVec 32 := Scf.iv c0_i32_22 c1_i32_23 k0_t2
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v212 : BitVec 32 := Scalar.addi v91 c0_i32_116
  let v214 : Index := Scalar.indexCast v212
  ![2, v214.toNat]
def k0_off9 (k0_t2 : Fin k0_t2_loop.trips) (c0_i32_132 : BitVec 32) : Fin 2 → Nat :=
  let c3_i32_133 : BitVec 32 := 3#32
  let v245 : Index := Scalar.indexCast c3_i32_133
  let c0_i32_79 : BitVec 32 := 0#32
  let c0_i32_22 : BitVec 32 := 0#32
  let c1_i32_23 : BitVec 32 := 1#32
  let arg15 : BitVec 32 := Scf.iv c0_i32_22 c1_i32_23 k0_t2
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v244 : BitVec 32 := Scalar.addi v91 c0_i32_132
  let v246 : Index := Scalar.indexCast v244
  ![3, v246.toNat]
def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c8_i32_25 : BitVec 32 := 8#32
  let v33 : BitVec 32 := Scalar.muli v15 c8_i32_25
  let v34 : BitVec 32 := Scalar.addi v2 v33
  let c0_i32_26 : BitVec 32 := 0#32
  ![v34.toNat, 0]
def k0_cond2 (k0_t1 : Fin k0_t1_loop.trips) : BitVec 1 :=
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c1_i32_28 : BitVec 32 := 1#32
  let v37 : BitVec 1 := Scalar.cmpi .sge v15 c1_i32_28
  let v38 : BitVec 32 := Scalar.extui v37
  let c0_i32_29 : BitVec 32 := 0#32
  let v39 : BitVec 1 := Scalar.cmpi .ne v38 c0_i32_29
  v39

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c1_i32_78 : BitVec 32 := 1#32
  let v89 : BitVec 32 := Scalar.subi v15 c1_i32_78
  let c8_i32_79 : BitVec 32 := 8#32
  let v90 : BitVec 32 := Scalar.muli v89 c8_i32_79
  let v91 : BitVec 32 := Scalar.addi v2 v90
  let c4_i32_80 : BitVec 32 := 4#32
  let v92 : BitVec 32 := Scalar.addi v91 c4_i32_80
  let c0_i32_81 : BitVec 32 := 0#32
  ![v92.toNat, 0]
@[reducible] def k0_t3_loop : Scf.Loop 32 :=
  let c0_i32_31 : BitVec 32 := 0#32
  let c32_i32_32 : BitVec 32 := 32#32
  let v44 : BitVec 32 := Scalar.addi c0_i32_31 c32_i32_32
  let c1_i32_33 : BitVec 32 := 1#32
  ⟨c0_i32_31, v44, c1_i32_33⟩
def k0_off12 (k0_t3 : Fin k0_t3_loop.trips) (c0_i32_81 : BitVec 32) : Fin 1 → Nat :=
  let c0_i32_79 : BitVec 32 := 0#32
  let c0_i32_31 : BitVec 32 := 0#32
  let c1_i32_33 : BitVec 32 := 1#32
  let arg15 : BitVec 32 := Scf.iv c0_i32_31 c1_i32_33 k0_t3
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v92 : BitVec 32 := Scalar.addi v91 c0_i32_81
  let v93 : Index := Scalar.indexCast v92
  ![v93.toNat]

def k0_chk9 (v40 : IVec S16 32) (v41 : IVec S16 32) (v42 : IVec S16 32) (v43 : IVec S16 32) (v94 : IVec S16 32) : Prop :=
  (∀ a x, ((![v40, v94] : Fin 2 → IVec S16 32) a x).toNat < S8x4096.size a) ∧
  (∀ a x, ((![v41, v94] : Fin 2 → IVec S16 32) a x).toNat < S8x4096.size a) ∧
  (∀ a x, ((![v42, v94] : Fin 2 → IVec S16 32) a x).toNat < S8x4096.size a) ∧
  (∀ a x, ((![v43, v94] : Fin 2 → IVec S16 32) a x).toNat < S8x4096.size a)
theorem k0_idx33_inb : ∀ (v40 : IVec S16 32) (v41 : IVec S16 32) (v42 : IVec S16 32) (v43 : IVec S16 32) (v94 : IVec S16 32) (k0_hw9 : k0_chk9 v40 v41 v42 v43 v94), ∀ a x, ((![v40, v94] : Fin 2 → IVec S16 32) a x).toNat < S8x4096.size a := fun v40 v41 v42 v43 v94 k0_hw9 => k0_hw9.1
theorem k0_idx41_inb : ∀ (v40 : IVec S16 32) (v41 : IVec S16 32) (v42 : IVec S16 32) (v43 : IVec S16 32) (v94 : IVec S16 32) (k0_hw9 : k0_chk9 v40 v41 v42 v43 v94), ∀ a x, ((![v41, v94] : Fin 2 → IVec S16 32) a x).toNat < S8x4096.size a := fun v40 v41 v42 v43 v94 k0_hw9 => k0_hw9.2.1
theorem k0_idx49_inb : ∀ (v40 : IVec S16 32) (v41 : IVec S16 32) (v42 : IVec S16 32) (v43 : IVec S16 32) (v94 : IVec S16 32) (k0_hw9 : k0_chk9 v40 v41 v42 v43 v94), ∀ a x, ((![v42, v94] : Fin 2 → IVec S16 32) a x).toNat < S8x4096.size a := fun v40 v41 v42 v43 v94 k0_hw9 => k0_hw9.2.2.1
theorem k0_idx57_inb : ∀ (v40 : IVec S16 32) (v41 : IVec S16 32) (v42 : IVec S16 32) (v43 : IVec S16 32) (v94 : IVec S16 32) (k0_hw9 : k0_chk9 v40 v41 v42 v43 v94), ∀ a x, ((![v43, v94] : Fin 2 → IVec S16 32) a x).toNat < S8x4096.size a := fun v40 v41 v42 v43 v94 k0_hw9 => k0_hw9.2.2.2

def k0_chk10 (v40 : IVec S16 32) (v41 : IVec S16 32) (v42 : IVec S16 32) (v43 : IVec S16 32) (v97 : IVec S16 32) : Prop :=
  (∀ a x, ((![v40, v97] : Fin 2 → IVec S16 32) a x).toNat < S8x4096.size a) ∧
  (∀ a x, ((![v41, v97] : Fin 2 → IVec S16 32) a x).toNat < S8x4096.size a) ∧
  (∀ a x, ((![v42, v97] : Fin 2 → IVec S16 32) a x).toNat < S8x4096.size a) ∧
  (∀ a x, ((![v43, v97] : Fin 2 → IVec S16 32) a x).toNat < S8x4096.size a)
theorem k0_idx34_inb : ∀ (v40 : IVec S16 32) (v41 : IVec S16 32) (v42 : IVec S16 32) (v43 : IVec S16 32) (v97 : IVec S16 32) (k0_hw10 : k0_chk10 v40 v41 v42 v43 v97), ∀ a x, ((![v40, v97] : Fin 2 → IVec S16 32) a x).toNat < S8x4096.size a := fun v40 v41 v42 v43 v97 k0_hw10 => k0_hw10.1
theorem k0_idx42_inb : ∀ (v40 : IVec S16 32) (v41 : IVec S16 32) (v42 : IVec S16 32) (v43 : IVec S16 32) (v97 : IVec S16 32) (k0_hw10 : k0_chk10 v40 v41 v42 v43 v97), ∀ a x, ((![v41, v97] : Fin 2 → IVec S16 32) a x).toNat < S8x4096.size a := fun v40 v41 v42 v43 v97 k0_hw10 => k0_hw10.2.1
theorem k0_idx50_inb : ∀ (v40 : IVec S16 32) (v41 : IVec S16 32) (v42 : IVec S16 32) (v43 : IVec S16 32) (v97 : IVec S16 32) (k0_hw10 : k0_chk10 v40 v41 v42 v43 v97), ∀ a x, ((![v42, v97] : Fin 2 → IVec S16 32) a x).toNat < S8x4096.size a := fun v40 v41 v42 v43 v97 k0_hw10 => k0_hw10.2.2.1
theorem k0_idx58_inb : ∀ (v40 : IVec S16 32) (v41 : IVec S16 32) (v42 : IVec S16 32) (v43 : IVec S16 32) (v97 : IVec S16 32) (k0_hw10 : k0_chk10 v40 v41 v42 v43 v97), ∀ a x, ((![v43, v97] : Fin 2 → IVec S16 32) a x).toNat < S8x4096.size a := fun v40 v41 v42 v43 v97 k0_hw10 => k0_hw10.2.2.2

def k0_chk11 (v40 : IVec S16 32) (v41 : IVec S16 32) (v42 : IVec S16 32) (v43 : IVec S16 32) (v100 : IVec S16 32) : Prop :=
  (∀ a x, ((![v40, v100] : Fin 2 → IVec S16 32) a x).toNat < S8x4096.size a) ∧
  (∀ a x, ((![v41, v100] : Fin 2 → IVec S16 32) a x).toNat < S8x4096.size a) ∧
  (∀ a x, ((![v42, v100] : Fin 2 → IVec S16 32) a x).toNat < S8x4096.size a) ∧
  (∀ a x, ((![v43, v100] : Fin 2 → IVec S16 32) a x).toNat < S8x4096.size a)
theorem k0_idx35_inb : ∀ (v40 : IVec S16 32) (v41 : IVec S16 32) (v42 : IVec S16 32) (v43 : IVec S16 32) (v100 : IVec S16 32) (k0_hw11 : k0_chk11 v40 v41 v42 v43 v100), ∀ a x, ((![v40, v100] : Fin 2 → IVec S16 32) a x).toNat < S8x4096.size a := fun v40 v41 v42 v43 v100 k0_hw11 => k0_hw11.1
theorem k0_idx43_inb : ∀ (v40 : IVec S16 32) (v41 : IVec S16 32) (v42 : IVec S16 32) (v43 : IVec S16 32) (v100 : IVec S16 32) (k0_hw11 : k0_chk11 v40 v41 v42 v43 v100), ∀ a x, ((![v41, v100] : Fin 2 → IVec S16 32) a x).toNat < S8x4096.size a := fun v40 v41 v42 v43 v100 k0_hw11 => k0_hw11.2.1
theorem k0_idx51_inb : ∀ (v40 : IVec S16 32) (v41 : IVec S16 32) (v42 : IVec S16 32) (v43 : IVec S16 32) (v100 : IVec S16 32) (k0_hw11 : k0_chk11 v40 v41 v42 v43 v100), ∀ a x, ((![v42, v100] : Fin 2 → IVec S16 32) a x).toNat < S8x4096.size a := fun v40 v41 v42 v43 v100 k0_hw11 => k0_hw11.2.2.1
theorem k0_idx59_inb : ∀ (v40 : IVec S16 32) (v41 : IVec S16 32) (v42 : IVec S16 32) (v43 : IVec S16 32) (v100 : IVec S16 32) (k0_hw11 : k0_chk11 v40 v41 v42 v43 v100), ∀ a x, ((![v43, v100] : Fin 2 → IVec S16 32) a x).toNat < S8x4096.size a := fun v40 v41 v42 v43 v100 k0_hw11 => k0_hw11.2.2.2

def k0_chk12 (v40 : IVec S16 32) (v41 : IVec S16 32) (v42 : IVec S16 32) (v43 : IVec S16 32) (v103 : IVec S16 32) : Prop :=
  (∀ a x, ((![v40, v103] : Fin 2 → IVec S16 32) a x).toNat < S8x4096.size a) ∧
  (∀ a x, ((![v41, v103] : Fin 2 → IVec S16 32) a x).toNat < S8x4096.size a) ∧
  (∀ a x, ((![v42, v103] : Fin 2 → IVec S16 32) a x).toNat < S8x4096.size a) ∧
  (∀ a x, ((![v43, v103] : Fin 2 → IVec S16 32) a x).toNat < S8x4096.size a)
theorem k0_idx36_inb : ∀ (v40 : IVec S16 32) (v41 : IVec S16 32) (v42 : IVec S16 32) (v43 : IVec S16 32) (v103 : IVec S16 32) (k0_hw12 : k0_chk12 v40 v41 v42 v43 v103), ∀ a x, ((![v40, v103] : Fin 2 → IVec S16 32) a x).toNat < S8x4096.size a := fun v40 v41 v42 v43 v103 k0_hw12 => k0_hw12.1
theorem k0_idx44_inb : ∀ (v40 : IVec S16 32) (v41 : IVec S16 32) (v42 : IVec S16 32) (v43 : IVec S16 32) (v103 : IVec S16 32) (k0_hw12 : k0_chk12 v40 v41 v42 v43 v103), ∀ a x, ((![v41, v103] : Fin 2 → IVec S16 32) a x).toNat < S8x4096.size a := fun v40 v41 v42 v43 v103 k0_hw12 => k0_hw12.2.1
theorem k0_idx52_inb : ∀ (v40 : IVec S16 32) (v41 : IVec S16 32) (v42 : IVec S16 32) (v43 : IVec S16 32) (v103 : IVec S16 32) (k0_hw12 : k0_chk12 v40 v41 v42 v43 v103), ∀ a x, ((![v42, v103] : Fin 2 → IVec S16 32) a x).toNat < S8x4096.size a := fun v40 v41 v42 v43 v103 k0_hw12 => k0_hw12.2.2.1
theorem k0_idx60_inb : ∀ (v40 : IVec S16 32) (v41 : IVec S16 32) (v42 : IVec S16 32) (v43 : IVec S16 32) (v103 : IVec S16 32) (k0_hw12 : k0_chk12 v40 v41 v42 v43 v103), ∀ a x, ((![v43, v103] : Fin 2 → IVec S16 32) a x).toNat < S8x4096.size a := fun v40 v41 v42 v43 v103 k0_hw12 => k0_hw12.2.2.2

def k0_chk13 (v40 : IVec S16 32) (v41 : IVec S16 32) (v42 : IVec S16 32) (v43 : IVec S16 32) (v106 : IVec S16 32) : Prop :=
  (∀ a x, ((![v40, v106] : Fin 2 → IVec S16 32) a x).toNat < S8x4096.size a) ∧
  (∀ a x, ((![v41, v106] : Fin 2 → IVec S16 32) a x).toNat < S8x4096.size a) ∧
  (∀ a x, ((![v42, v106] : Fin 2 → IVec S16 32) a x).toNat < S8x4096.size a) ∧
  (∀ a x, ((![v43, v106] : Fin 2 → IVec S16 32) a x).toNat < S8x4096.size a)
theorem k0_idx37_inb : ∀ (v40 : IVec S16 32) (v41 : IVec S16 32) (v42 : IVec S16 32) (v43 : IVec S16 32) (v106 : IVec S16 32) (k0_hw13 : k0_chk13 v40 v41 v42 v43 v106), ∀ a x, ((![v40, v106] : Fin 2 → IVec S16 32) a x).toNat < S8x4096.size a := fun v40 v41 v42 v43 v106 k0_hw13 => k0_hw13.1
theorem k0_idx45_inb : ∀ (v40 : IVec S16 32) (v41 : IVec S16 32) (v42 : IVec S16 32) (v43 : IVec S16 32) (v106 : IVec S16 32) (k0_hw13 : k0_chk13 v40 v41 v42 v43 v106), ∀ a x, ((![v41, v106] : Fin 2 → IVec S16 32) a x).toNat < S8x4096.size a := fun v40 v41 v42 v43 v106 k0_hw13 => k0_hw13.2.1
theorem k0_idx53_inb : ∀ (v40 : IVec S16 32) (v41 : IVec S16 32) (v42 : IVec S16 32) (v43 : IVec S16 32) (v106 : IVec S16 32) (k0_hw13 : k0_chk13 v40 v41 v42 v43 v106), ∀ a x, ((![v42, v106] : Fin 2 → IVec S16 32) a x).toNat < S8x4096.size a := fun v40 v41 v42 v43 v106 k0_hw13 => k0_hw13.2.2.1
theorem k0_idx61_inb : ∀ (v40 : IVec S16 32) (v41 : IVec S16 32) (v42 : IVec S16 32) (v43 : IVec S16 32) (v106 : IVec S16 32) (k0_hw13 : k0_chk13 v40 v41 v42 v43 v106), ∀ a x, ((![v43, v106] : Fin 2 → IVec S16 32) a x).toNat < S8x4096.size a := fun v40 v41 v42 v43 v106 k0_hw13 => k0_hw13.2.2.2

def k0_chk14 (v40 : IVec S16 32) (v41 : IVec S16 32) (v42 : IVec S16 32) (v43 : IVec S16 32) (v109 : IVec S16 32) : Prop :=
  (∀ a x, ((![v40, v109] : Fin 2 → IVec S16 32) a x).toNat < S8x4096.size a) ∧
  (∀ a x, ((![v41, v109] : Fin 2 → IVec S16 32) a x).toNat < S8x4096.size a) ∧
  (∀ a x, ((![v42, v109] : Fin 2 → IVec S16 32) a x).toNat < S8x4096.size a) ∧
  (∀ a x, ((![v43, v109] : Fin 2 → IVec S16 32) a x).toNat < S8x4096.size a)
theorem k0_idx38_inb : ∀ (v40 : IVec S16 32) (v41 : IVec S16 32) (v42 : IVec S16 32) (v43 : IVec S16 32) (v109 : IVec S16 32) (k0_hw14 : k0_chk14 v40 v41 v42 v43 v109), ∀ a x, ((![v40, v109] : Fin 2 → IVec S16 32) a x).toNat < S8x4096.size a := fun v40 v41 v42 v43 v109 k0_hw14 => k0_hw14.1
theorem k0_idx46_inb : ∀ (v40 : IVec S16 32) (v41 : IVec S16 32) (v42 : IVec S16 32) (v43 : IVec S16 32) (v109 : IVec S16 32) (k0_hw14 : k0_chk14 v40 v41 v42 v43 v109), ∀ a x, ((![v41, v109] : Fin 2 → IVec S16 32) a x).toNat < S8x4096.size a := fun v40 v41 v42 v43 v109 k0_hw14 => k0_hw14.2.1
theorem k0_idx54_inb : ∀ (v40 : IVec S16 32) (v41 : IVec S16 32) (v42 : IVec S16 32) (v43 : IVec S16 32) (v109 : IVec S16 32) (k0_hw14 : k0_chk14 v40 v41 v42 v43 v109), ∀ a x, ((![v42, v109] : Fin 2 → IVec S16 32) a x).toNat < S8x4096.size a := fun v40 v41 v42 v43 v109 k0_hw14 => k0_hw14.2.2.1
theorem k0_idx62_inb : ∀ (v40 : IVec S16 32) (v41 : IVec S16 32) (v42 : IVec S16 32) (v43 : IVec S16 32) (v109 : IVec S16 32) (k0_hw14 : k0_chk14 v40 v41 v42 v43 v109), ∀ a x, ((![v43, v109] : Fin 2 → IVec S16 32) a x).toNat < S8x4096.size a := fun v40 v41 v42 v43 v109 k0_hw14 => k0_hw14.2.2.2

def k0_chk15 (v40 : IVec S16 32) (v41 : IVec S16 32) (v42 : IVec S16 32) (v43 : IVec S16 32) (v112 : IVec S16 32) : Prop :=
  (∀ a x, ((![v40, v112] : Fin 2 → IVec S16 32) a x).toNat < S8x4096.size a) ∧
  (∀ a x, ((![v41, v112] : Fin 2 → IVec S16 32) a x).toNat < S8x4096.size a) ∧
  (∀ a x, ((![v42, v112] : Fin 2 → IVec S16 32) a x).toNat < S8x4096.size a) ∧
  (∀ a x, ((![v43, v112] : Fin 2 → IVec S16 32) a x).toNat < S8x4096.size a)
theorem k0_idx39_inb : ∀ (v40 : IVec S16 32) (v41 : IVec S16 32) (v42 : IVec S16 32) (v43 : IVec S16 32) (v112 : IVec S16 32) (k0_hw15 : k0_chk15 v40 v41 v42 v43 v112), ∀ a x, ((![v40, v112] : Fin 2 → IVec S16 32) a x).toNat < S8x4096.size a := fun v40 v41 v42 v43 v112 k0_hw15 => k0_hw15.1
theorem k0_idx47_inb : ∀ (v40 : IVec S16 32) (v41 : IVec S16 32) (v42 : IVec S16 32) (v43 : IVec S16 32) (v112 : IVec S16 32) (k0_hw15 : k0_chk15 v40 v41 v42 v43 v112), ∀ a x, ((![v41, v112] : Fin 2 → IVec S16 32) a x).toNat < S8x4096.size a := fun v40 v41 v42 v43 v112 k0_hw15 => k0_hw15.2.1
theorem k0_idx55_inb : ∀ (v40 : IVec S16 32) (v41 : IVec S16 32) (v42 : IVec S16 32) (v43 : IVec S16 32) (v112 : IVec S16 32) (k0_hw15 : k0_chk15 v40 v41 v42 v43 v112), ∀ a x, ((![v42, v112] : Fin 2 → IVec S16 32) a x).toNat < S8x4096.size a := fun v40 v41 v42 v43 v112 k0_hw15 => k0_hw15.2.2.1
theorem k0_idx63_inb : ∀ (v40 : IVec S16 32) (v41 : IVec S16 32) (v42 : IVec S16 32) (v43 : IVec S16 32) (v112 : IVec S16 32) (k0_hw15 : k0_chk15 v40 v41 v42 v43 v112), ∀ a x, ((![v43, v112] : Fin 2 → IVec S16 32) a x).toNat < S8x4096.size a := fun v40 v41 v42 v43 v112 k0_hw15 => k0_hw15.2.2.2

def k0_chk16 (v40 : IVec S16 32) (v41 : IVec S16 32) (v42 : IVec S16 32) (v43 : IVec S16 32) (v115 : IVec S16 32) : Prop :=
  (∀ a x, ((![v40, v115] : Fin 2 → IVec S16 32) a x).toNat < S8x4096.size a) ∧
  (∀ a x, ((![v41, v115] : Fin 2 → IVec S16 32) a x).toNat < S8x4096.size a) ∧
  (∀ a x, ((![v42, v115] : Fin 2 → IVec S16 32) a x).toNat < S8x4096.size a) ∧
  (∀ a x, ((![v43, v115] : Fin 2 → IVec S16 32) a x).toNat < S8x4096.size a)
theorem k0_idx40_inb : ∀ (v40 : IVec S16 32) (v41 : IVec S16 32) (v42 : IVec S16 32) (v43 : IVec S16 32) (v115 : IVec S16 32) (k0_hw16 : k0_chk16 v40 v41 v42 v43 v115), ∀ a x, ((![v40, v115] : Fin 2 → IVec S16 32) a x).toNat < S8x4096.size a := fun v40 v41 v42 v43 v115 k0_hw16 => k0_hw16.1
theorem k0_idx48_inb : ∀ (v40 : IVec S16 32) (v41 : IVec S16 32) (v42 : IVec S16 32) (v43 : IVec S16 32) (v115 : IVec S16 32) (k0_hw16 : k0_chk16 v40 v41 v42 v43 v115), ∀ a x, ((![v41, v115] : Fin 2 → IVec S16 32) a x).toNat < S8x4096.size a := fun v40 v41 v42 v43 v115 k0_hw16 => k0_hw16.2.1
theorem k0_idx56_inb : ∀ (v40 : IVec S16 32) (v41 : IVec S16 32) (v42 : IVec S16 32) (v43 : IVec S16 32) (v115 : IVec S16 32) (k0_hw16 : k0_chk16 v40 v41 v42 v43 v115), ∀ a x, ((![v42, v115] : Fin 2 → IVec S16 32) a x).toNat < S8x4096.size a := fun v40 v41 v42 v43 v115 k0_hw16 => k0_hw16.2.2.1
theorem k0_idx64_inb : ∀ (v40 : IVec S16 32) (v41 : IVec S16 32) (v42 : IVec S16 32) (v43 : IVec S16 32) (v115 : IVec S16 32) (k0_hw16 : k0_chk16 v40 v41 v42 v43 v115), ∀ a x, ((![v43, v115] : Fin 2 → IVec S16 32) a x).toNat < S8x4096.size a := fun v40 v41 v42 v43 v115 k0_hw16 => k0_hw16.2.2.2
def k0_off13 (k0_t3 : Fin k0_t3_loop.trips) (c0_i32_84 : BitVec 32) : Fin 2 → Nat :=
  let c0_i32_85 : BitVec 32 := 0#32
  let v149 : Index := Scalar.indexCast c0_i32_85
  let c0_i32_79 : BitVec 32 := 0#32
  let c0_i32_31 : BitVec 32 := 0#32
  let c1_i32_33 : BitVec 32 := 1#32
  let arg15 : BitVec 32 := Scf.iv c0_i32_31 c1_i32_33 k0_t3
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v148 : BitVec 32 := Scalar.addi v91 c0_i32_84
  let v150 : Index := Scalar.indexCast v148
  ![0, v150.toNat]
def k0_off14 (k0_t3 : Fin k0_t3_loop.trips) (c0_i32_100 : BitVec 32) : Fin 2 → Nat :=
  let c1_i32_101 : BitVec 32 := 1#32
  let v181 : Index := Scalar.indexCast c1_i32_101
  let c0_i32_79 : BitVec 32 := 0#32
  let c0_i32_31 : BitVec 32 := 0#32
  let c1_i32_33 : BitVec 32 := 1#32
  let arg15 : BitVec 32 := Scf.iv c0_i32_31 c1_i32_33 k0_t3
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v180 : BitVec 32 := Scalar.addi v91 c0_i32_100
  let v182 : Index := Scalar.indexCast v180
  ![1, v182.toNat]
def k0_off15 (k0_t3 : Fin k0_t3_loop.trips) (c0_i32_116 : BitVec 32) : Fin 2 → Nat :=
  let c2_i32_117 : BitVec 32 := 2#32
  let v213 : Index := Scalar.indexCast c2_i32_117
  let c0_i32_79 : BitVec 32 := 0#32
  let c0_i32_31 : BitVec 32 := 0#32
  let c1_i32_33 : BitVec 32 := 1#32
  let arg15 : BitVec 32 := Scf.iv c0_i32_31 c1_i32_33 k0_t3
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v212 : BitVec 32 := Scalar.addi v91 c0_i32_116
  let v214 : Index := Scalar.indexCast v212
  ![2, v214.toNat]
def k0_off16 (k0_t3 : Fin k0_t3_loop.trips) (c0_i32_132 : BitVec 32) : Fin 2 → Nat :=
  let c3_i32_133 : BitVec 32 := 3#32
  let v245 : Index := Scalar.indexCast c3_i32_133
  let c0_i32_79 : BitVec 32 := 0#32
  let c0_i32_31 : BitVec 32 := 0#32
  let c1_i32_33 : BitVec 32 := 1#32
  let arg15 : BitVec 32 := Scf.iv c0_i32_31 c1_i32_33 k0_t3
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v244 : BitVec 32 := Scalar.addi v91 c0_i32_132
  let v246 : Index := Scalar.indexCast v244
  ![3, v246.toNat]
def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c8_i32_35 : BitVec 32 := 8#32
  let v45 : BitVec 32 := Scalar.muli v15 c8_i32_35
  let v46 : BitVec 32 := Scalar.addi v2 v45
  let c4_i32_36 : BitVec 32 := 4#32
  let v47 : BitVec 32 := Scalar.addi v46 c4_i32_36
  let c0_i32_37 : BitVec 32 := 0#32
  ![v47.toNat, 0]
def k0_cond3 (k0_t1 : Fin k0_t1_loop.trips) : BitVec 1 :=
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c2_i32_39 : BitVec 32 := 2#32
  let v50 : BitVec 32 := Scalar.addi v15 c2_i32_39
  let c32_i32_40 : BitVec 32 := 32#32
  let v51 : BitVec 1 := Scalar.cmpi .slt v50 c32_i32_40
  let v52 : BitVec 32 := Scalar.extui v51
  let c0_i32_41 : BitVec 32 := 0#32
  let v53 : BitVec 1 := Scalar.cmpi .ne v52 c0_i32_41
  v53

def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c2_i32_78 : BitVec 32 := 2#32
  let v89 : BitVec 32 := Scalar.addi v15 c2_i32_78
  let c8_i32_79 : BitVec 32 := 8#32
  let v90 : BitVec 32 := Scalar.muli v89 c8_i32_79
  let v91 : BitVec 32 := Scalar.addi v2 v90
  let c0_i32_80 : BitVec 32 := 0#32
  ![v91.toNat, 0]
def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c1_i32_42 : BitVec 32 := 1#32
  let v54 : BitVec 32 := Scalar.addi v15 c1_i32_42
  let c8_i32_43 : BitVec 32 := 8#32
  let v55 : BitVec 32 := Scalar.muli v54 c8_i32_43
  let v56 : BitVec 32 := Scalar.addi v2 v55
  let c0_i32_44 : BitVec 32 := 0#32
  ![v56.toNat, 0]
def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c8_i32_46 : BitVec 32 := 8#32
  let v59 : BitVec 32 := Scalar.muli v15 c8_i32_46
  let v60 : BitVec 32 := Scalar.addi v2 v59
  let c0_i32_47 : BitVec 32 := 0#32
  ![v60.toNat, 0]
@[reducible] def k0_t4_loop : Scf.Loop 32 :=
  let c0_i32_53 : BitVec 32 := 0#32
  let c32_i32_54 : BitVec 32 := 32#32
  let v67 : BitVec 32 := Scalar.addi c0_i32_53 c32_i32_54
  let c1_i32_55 : BitVec 32 := 1#32
  ⟨c0_i32_53, v67, c1_i32_55⟩
def k0_off21 (k0_t4 : Fin k0_t4_loop.trips) (c0_i32_81 : BitVec 32) : Fin 1 → Nat :=
  let c0_i32_79 : BitVec 32 := 0#32
  let c0_i32_53 : BitVec 32 := 0#32
  let c1_i32_55 : BitVec 32 := 1#32
  let arg15 : BitVec 32 := Scf.iv c0_i32_53 c1_i32_55 k0_t4
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v92 : BitVec 32 := Scalar.addi v91 c0_i32_81
  let v93 : Index := Scalar.indexCast v92
  ![v93.toNat]

def k0_chk17 (v63 : IVec S16 32) (v64 : IVec S16 32) (v65 : IVec S16 32) (v66 : IVec S16 32) (v94 : IVec S16 32) : Prop :=
  (∀ a x, ((![v63, v94] : Fin 2 → IVec S16 32) a x).toNat < S8x4096.size a) ∧
  (∀ a x, ((![v64, v94] : Fin 2 → IVec S16 32) a x).toNat < S8x4096.size a) ∧
  (∀ a x, ((![v65, v94] : Fin 2 → IVec S16 32) a x).toNat < S8x4096.size a) ∧
  (∀ a x, ((![v66, v94] : Fin 2 → IVec S16 32) a x).toNat < S8x4096.size a)
theorem k0_idx65_inb : ∀ (v63 : IVec S16 32) (v64 : IVec S16 32) (v65 : IVec S16 32) (v66 : IVec S16 32) (v94 : IVec S16 32) (k0_hw17 : k0_chk17 v63 v64 v65 v66 v94), ∀ a x, ((![v63, v94] : Fin 2 → IVec S16 32) a x).toNat < S8x4096.size a := fun v63 v64 v65 v66 v94 k0_hw17 => k0_hw17.1
theorem k0_idx73_inb : ∀ (v63 : IVec S16 32) (v64 : IVec S16 32) (v65 : IVec S16 32) (v66 : IVec S16 32) (v94 : IVec S16 32) (k0_hw17 : k0_chk17 v63 v64 v65 v66 v94), ∀ a x, ((![v64, v94] : Fin 2 → IVec S16 32) a x).toNat < S8x4096.size a := fun v63 v64 v65 v66 v94 k0_hw17 => k0_hw17.2.1
theorem k0_idx81_inb : ∀ (v63 : IVec S16 32) (v64 : IVec S16 32) (v65 : IVec S16 32) (v66 : IVec S16 32) (v94 : IVec S16 32) (k0_hw17 : k0_chk17 v63 v64 v65 v66 v94), ∀ a x, ((![v65, v94] : Fin 2 → IVec S16 32) a x).toNat < S8x4096.size a := fun v63 v64 v65 v66 v94 k0_hw17 => k0_hw17.2.2.1
theorem k0_idx89_inb : ∀ (v63 : IVec S16 32) (v64 : IVec S16 32) (v65 : IVec S16 32) (v66 : IVec S16 32) (v94 : IVec S16 32) (k0_hw17 : k0_chk17 v63 v64 v65 v66 v94), ∀ a x, ((![v66, v94] : Fin 2 → IVec S16 32) a x).toNat < S8x4096.size a := fun v63 v64 v65 v66 v94 k0_hw17 => k0_hw17.2.2.2

def k0_chk18 (v63 : IVec S16 32) (v64 : IVec S16 32) (v65 : IVec S16 32) (v66 : IVec S16 32) (v97 : IVec S16 32) : Prop :=
  (∀ a x, ((![v63, v97] : Fin 2 → IVec S16 32) a x).toNat < S8x4096.size a) ∧
  (∀ a x, ((![v64, v97] : Fin 2 → IVec S16 32) a x).toNat < S8x4096.size a) ∧
  (∀ a x, ((![v65, v97] : Fin 2 → IVec S16 32) a x).toNat < S8x4096.size a) ∧
  (∀ a x, ((![v66, v97] : Fin 2 → IVec S16 32) a x).toNat < S8x4096.size a)
theorem k0_idx66_inb : ∀ (v63 : IVec S16 32) (v64 : IVec S16 32) (v65 : IVec S16 32) (v66 : IVec S16 32) (v97 : IVec S16 32) (k0_hw18 : k0_chk18 v63 v64 v65 v66 v97), ∀ a x, ((![v63, v97] : Fin 2 → IVec S16 32) a x).toNat < S8x4096.size a := fun v63 v64 v65 v66 v97 k0_hw18 => k0_hw18.1
theorem k0_idx74_inb : ∀ (v63 : IVec S16 32) (v64 : IVec S16 32) (v65 : IVec S16 32) (v66 : IVec S16 32) (v97 : IVec S16 32) (k0_hw18 : k0_chk18 v63 v64 v65 v66 v97), ∀ a x, ((![v64, v97] : Fin 2 → IVec S16 32) a x).toNat < S8x4096.size a := fun v63 v64 v65 v66 v97 k0_hw18 => k0_hw18.2.1
theorem k0_idx82_inb : ∀ (v63 : IVec S16 32) (v64 : IVec S16 32) (v65 : IVec S16 32) (v66 : IVec S16 32) (v97 : IVec S16 32) (k0_hw18 : k0_chk18 v63 v64 v65 v66 v97), ∀ a x, ((![v65, v97] : Fin 2 → IVec S16 32) a x).toNat < S8x4096.size a := fun v63 v64 v65 v66 v97 k0_hw18 => k0_hw18.2.2.1
theorem k0_idx90_inb : ∀ (v63 : IVec S16 32) (v64 : IVec S16 32) (v65 : IVec S16 32) (v66 : IVec S16 32) (v97 : IVec S16 32) (k0_hw18 : k0_chk18 v63 v64 v65 v66 v97), ∀ a x, ((![v66, v97] : Fin 2 → IVec S16 32) a x).toNat < S8x4096.size a := fun v63 v64 v65 v66 v97 k0_hw18 => k0_hw18.2.2.2

def k0_chk19 (v63 : IVec S16 32) (v64 : IVec S16 32) (v65 : IVec S16 32) (v66 : IVec S16 32) (v100 : IVec S16 32) : Prop :=
  (∀ a x, ((![v63, v100] : Fin 2 → IVec S16 32) a x).toNat < S8x4096.size a) ∧
  (∀ a x, ((![v64, v100] : Fin 2 → IVec S16 32) a x).toNat < S8x4096.size a) ∧
  (∀ a x, ((![v65, v100] : Fin 2 → IVec S16 32) a x).toNat < S8x4096.size a) ∧
  (∀ a x, ((![v66, v100] : Fin 2 → IVec S16 32) a x).toNat < S8x4096.size a)
theorem k0_idx67_inb : ∀ (v63 : IVec S16 32) (v64 : IVec S16 32) (v65 : IVec S16 32) (v66 : IVec S16 32) (v100 : IVec S16 32) (k0_hw19 : k0_chk19 v63 v64 v65 v66 v100), ∀ a x, ((![v63, v100] : Fin 2 → IVec S16 32) a x).toNat < S8x4096.size a := fun v63 v64 v65 v66 v100 k0_hw19 => k0_hw19.1
theorem k0_idx75_inb : ∀ (v63 : IVec S16 32) (v64 : IVec S16 32) (v65 : IVec S16 32) (v66 : IVec S16 32) (v100 : IVec S16 32) (k0_hw19 : k0_chk19 v63 v64 v65 v66 v100), ∀ a x, ((![v64, v100] : Fin 2 → IVec S16 32) a x).toNat < S8x4096.size a := fun v63 v64 v65 v66 v100 k0_hw19 => k0_hw19.2.1
theorem k0_idx83_inb : ∀ (v63 : IVec S16 32) (v64 : IVec S16 32) (v65 : IVec S16 32) (v66 : IVec S16 32) (v100 : IVec S16 32) (k0_hw19 : k0_chk19 v63 v64 v65 v66 v100), ∀ a x, ((![v65, v100] : Fin 2 → IVec S16 32) a x).toNat < S8x4096.size a := fun v63 v64 v65 v66 v100 k0_hw19 => k0_hw19.2.2.1
theorem k0_idx91_inb : ∀ (v63 : IVec S16 32) (v64 : IVec S16 32) (v65 : IVec S16 32) (v66 : IVec S16 32) (v100 : IVec S16 32) (k0_hw19 : k0_chk19 v63 v64 v65 v66 v100), ∀ a x, ((![v66, v100] : Fin 2 → IVec S16 32) a x).toNat < S8x4096.size a := fun v63 v64 v65 v66 v100 k0_hw19 => k0_hw19.2.2.2

def k0_chk20 (v63 : IVec S16 32) (v64 : IVec S16 32) (v65 : IVec S16 32) (v66 : IVec S16 32) (v103 : IVec S16 32) : Prop :=
  (∀ a x, ((![v63, v103] : Fin 2 → IVec S16 32) a x).toNat < S8x4096.size a) ∧
  (∀ a x, ((![v64, v103] : Fin 2 → IVec S16 32) a x).toNat < S8x4096.size a) ∧
  (∀ a x, ((![v65, v103] : Fin 2 → IVec S16 32) a x).toNat < S8x4096.size a) ∧
  (∀ a x, ((![v66, v103] : Fin 2 → IVec S16 32) a x).toNat < S8x4096.size a)
theorem k0_idx68_inb : ∀ (v63 : IVec S16 32) (v64 : IVec S16 32) (v65 : IVec S16 32) (v66 : IVec S16 32) (v103 : IVec S16 32) (k0_hw20 : k0_chk20 v63 v64 v65 v66 v103), ∀ a x, ((![v63, v103] : Fin 2 → IVec S16 32) a x).toNat < S8x4096.size a := fun v63 v64 v65 v66 v103 k0_hw20 => k0_hw20.1
theorem k0_idx76_inb : ∀ (v63 : IVec S16 32) (v64 : IVec S16 32) (v65 : IVec S16 32) (v66 : IVec S16 32) (v103 : IVec S16 32) (k0_hw20 : k0_chk20 v63 v64 v65 v66 v103), ∀ a x, ((![v64, v103] : Fin 2 → IVec S16 32) a x).toNat < S8x4096.size a := fun v63 v64 v65 v66 v103 k0_hw20 => k0_hw20.2.1
theorem k0_idx84_inb : ∀ (v63 : IVec S16 32) (v64 : IVec S16 32) (v65 : IVec S16 32) (v66 : IVec S16 32) (v103 : IVec S16 32) (k0_hw20 : k0_chk20 v63 v64 v65 v66 v103), ∀ a x, ((![v65, v103] : Fin 2 → IVec S16 32) a x).toNat < S8x4096.size a := fun v63 v64 v65 v66 v103 k0_hw20 => k0_hw20.2.2.1
theorem k0_idx92_inb : ∀ (v63 : IVec S16 32) (v64 : IVec S16 32) (v65 : IVec S16 32) (v66 : IVec S16 32) (v103 : IVec S16 32) (k0_hw20 : k0_chk20 v63 v64 v65 v66 v103), ∀ a x, ((![v66, v103] : Fin 2 → IVec S16 32) a x).toNat < S8x4096.size a := fun v63 v64 v65 v66 v103 k0_hw20 => k0_hw20.2.2.2

def k0_chk21 (v63 : IVec S16 32) (v64 : IVec S16 32) (v65 : IVec S16 32) (v66 : IVec S16 32) (v106 : IVec S16 32) : Prop :=
  (∀ a x, ((![v63, v106] : Fin 2 → IVec S16 32) a x).toNat < S8x4096.size a) ∧
  (∀ a x, ((![v64, v106] : Fin 2 → IVec S16 32) a x).toNat < S8x4096.size a) ∧
  (∀ a x, ((![v65, v106] : Fin 2 → IVec S16 32) a x).toNat < S8x4096.size a) ∧
  (∀ a x, ((![v66, v106] : Fin 2 → IVec S16 32) a x).toNat < S8x4096.size a)
theorem k0_idx69_inb : ∀ (v63 : IVec S16 32) (v64 : IVec S16 32) (v65 : IVec S16 32) (v66 : IVec S16 32) (v106 : IVec S16 32) (k0_hw21 : k0_chk21 v63 v64 v65 v66 v106), ∀ a x, ((![v63, v106] : Fin 2 → IVec S16 32) a x).toNat < S8x4096.size a := fun v63 v64 v65 v66 v106 k0_hw21 => k0_hw21.1
theorem k0_idx77_inb : ∀ (v63 : IVec S16 32) (v64 : IVec S16 32) (v65 : IVec S16 32) (v66 : IVec S16 32) (v106 : IVec S16 32) (k0_hw21 : k0_chk21 v63 v64 v65 v66 v106), ∀ a x, ((![v64, v106] : Fin 2 → IVec S16 32) a x).toNat < S8x4096.size a := fun v63 v64 v65 v66 v106 k0_hw21 => k0_hw21.2.1
theorem k0_idx85_inb : ∀ (v63 : IVec S16 32) (v64 : IVec S16 32) (v65 : IVec S16 32) (v66 : IVec S16 32) (v106 : IVec S16 32) (k0_hw21 : k0_chk21 v63 v64 v65 v66 v106), ∀ a x, ((![v65, v106] : Fin 2 → IVec S16 32) a x).toNat < S8x4096.size a := fun v63 v64 v65 v66 v106 k0_hw21 => k0_hw21.2.2.1
theorem k0_idx93_inb : ∀ (v63 : IVec S16 32) (v64 : IVec S16 32) (v65 : IVec S16 32) (v66 : IVec S16 32) (v106 : IVec S16 32) (k0_hw21 : k0_chk21 v63 v64 v65 v66 v106), ∀ a x, ((![v66, v106] : Fin 2 → IVec S16 32) a x).toNat < S8x4096.size a := fun v63 v64 v65 v66 v106 k0_hw21 => k0_hw21.2.2.2

def k0_chk22 (v63 : IVec S16 32) (v64 : IVec S16 32) (v65 : IVec S16 32) (v66 : IVec S16 32) (v109 : IVec S16 32) : Prop :=
  (∀ a x, ((![v63, v109] : Fin 2 → IVec S16 32) a x).toNat < S8x4096.size a) ∧
  (∀ a x, ((![v64, v109] : Fin 2 → IVec S16 32) a x).toNat < S8x4096.size a) ∧
  (∀ a x, ((![v65, v109] : Fin 2 → IVec S16 32) a x).toNat < S8x4096.size a) ∧
  (∀ a x, ((![v66, v109] : Fin 2 → IVec S16 32) a x).toNat < S8x4096.size a)
theorem k0_idx70_inb : ∀ (v63 : IVec S16 32) (v64 : IVec S16 32) (v65 : IVec S16 32) (v66 : IVec S16 32) (v109 : IVec S16 32) (k0_hw22 : k0_chk22 v63 v64 v65 v66 v109), ∀ a x, ((![v63, v109] : Fin 2 → IVec S16 32) a x).toNat < S8x4096.size a := fun v63 v64 v65 v66 v109 k0_hw22 => k0_hw22.1
theorem k0_idx78_inb : ∀ (v63 : IVec S16 32) (v64 : IVec S16 32) (v65 : IVec S16 32) (v66 : IVec S16 32) (v109 : IVec S16 32) (k0_hw22 : k0_chk22 v63 v64 v65 v66 v109), ∀ a x, ((![v64, v109] : Fin 2 → IVec S16 32) a x).toNat < S8x4096.size a := fun v63 v64 v65 v66 v109 k0_hw22 => k0_hw22.2.1
theorem k0_idx86_inb : ∀ (v63 : IVec S16 32) (v64 : IVec S16 32) (v65 : IVec S16 32) (v66 : IVec S16 32) (v109 : IVec S16 32) (k0_hw22 : k0_chk22 v63 v64 v65 v66 v109), ∀ a x, ((![v65, v109] : Fin 2 → IVec S16 32) a x).toNat < S8x4096.size a := fun v63 v64 v65 v66 v109 k0_hw22 => k0_hw22.2.2.1
theorem k0_idx94_inb : ∀ (v63 : IVec S16 32) (v64 : IVec S16 32) (v65 : IVec S16 32) (v66 : IVec S16 32) (v109 : IVec S16 32) (k0_hw22 : k0_chk22 v63 v64 v65 v66 v109), ∀ a x, ((![v66, v109] : Fin 2 → IVec S16 32) a x).toNat < S8x4096.size a := fun v63 v64 v65 v66 v109 k0_hw22 => k0_hw22.2.2.2

def k0_chk23 (v63 : IVec S16 32) (v64 : IVec S16 32) (v65 : IVec S16 32) (v66 : IVec S16 32) (v112 : IVec S16 32) : Prop :=
  (∀ a x, ((![v63, v112] : Fin 2 → IVec S16 32) a x).toNat < S8x4096.size a) ∧
  (∀ a x, ((![v64, v112] : Fin 2 → IVec S16 32) a x).toNat < S8x4096.size a) ∧
  (∀ a x, ((![v65, v112] : Fin 2 → IVec S16 32) a x).toNat < S8x4096.size a) ∧
  (∀ a x, ((![v66, v112] : Fin 2 → IVec S16 32) a x).toNat < S8x4096.size a)
theorem k0_idx71_inb : ∀ (v63 : IVec S16 32) (v64 : IVec S16 32) (v65 : IVec S16 32) (v66 : IVec S16 32) (v112 : IVec S16 32) (k0_hw23 : k0_chk23 v63 v64 v65 v66 v112), ∀ a x, ((![v63, v112] : Fin 2 → IVec S16 32) a x).toNat < S8x4096.size a := fun v63 v64 v65 v66 v112 k0_hw23 => k0_hw23.1
theorem k0_idx79_inb : ∀ (v63 : IVec S16 32) (v64 : IVec S16 32) (v65 : IVec S16 32) (v66 : IVec S16 32) (v112 : IVec S16 32) (k0_hw23 : k0_chk23 v63 v64 v65 v66 v112), ∀ a x, ((![v64, v112] : Fin 2 → IVec S16 32) a x).toNat < S8x4096.size a := fun v63 v64 v65 v66 v112 k0_hw23 => k0_hw23.2.1
theorem k0_idx87_inb : ∀ (v63 : IVec S16 32) (v64 : IVec S16 32) (v65 : IVec S16 32) (v66 : IVec S16 32) (v112 : IVec S16 32) (k0_hw23 : k0_chk23 v63 v64 v65 v66 v112), ∀ a x, ((![v65, v112] : Fin 2 → IVec S16 32) a x).toNat < S8x4096.size a := fun v63 v64 v65 v66 v112 k0_hw23 => k0_hw23.2.2.1
theorem k0_idx95_inb : ∀ (v63 : IVec S16 32) (v64 : IVec S16 32) (v65 : IVec S16 32) (v66 : IVec S16 32) (v112 : IVec S16 32) (k0_hw23 : k0_chk23 v63 v64 v65 v66 v112), ∀ a x, ((![v66, v112] : Fin 2 → IVec S16 32) a x).toNat < S8x4096.size a := fun v63 v64 v65 v66 v112 k0_hw23 => k0_hw23.2.2.2

def k0_chk24 (v63 : IVec S16 32) (v64 : IVec S16 32) (v65 : IVec S16 32) (v66 : IVec S16 32) (v115 : IVec S16 32) : Prop :=
  (∀ a x, ((![v63, v115] : Fin 2 → IVec S16 32) a x).toNat < S8x4096.size a) ∧
  (∀ a x, ((![v64, v115] : Fin 2 → IVec S16 32) a x).toNat < S8x4096.size a) ∧
  (∀ a x, ((![v65, v115] : Fin 2 → IVec S16 32) a x).toNat < S8x4096.size a) ∧
  (∀ a x, ((![v66, v115] : Fin 2 → IVec S16 32) a x).toNat < S8x4096.size a)
theorem k0_idx72_inb : ∀ (v63 : IVec S16 32) (v64 : IVec S16 32) (v65 : IVec S16 32) (v66 : IVec S16 32) (v115 : IVec S16 32) (k0_hw24 : k0_chk24 v63 v64 v65 v66 v115), ∀ a x, ((![v63, v115] : Fin 2 → IVec S16 32) a x).toNat < S8x4096.size a := fun v63 v64 v65 v66 v115 k0_hw24 => k0_hw24.1
theorem k0_idx80_inb : ∀ (v63 : IVec S16 32) (v64 : IVec S16 32) (v65 : IVec S16 32) (v66 : IVec S16 32) (v115 : IVec S16 32) (k0_hw24 : k0_chk24 v63 v64 v65 v66 v115), ∀ a x, ((![v64, v115] : Fin 2 → IVec S16 32) a x).toNat < S8x4096.size a := fun v63 v64 v65 v66 v115 k0_hw24 => k0_hw24.2.1
theorem k0_idx88_inb : ∀ (v63 : IVec S16 32) (v64 : IVec S16 32) (v65 : IVec S16 32) (v66 : IVec S16 32) (v115 : IVec S16 32) (k0_hw24 : k0_chk24 v63 v64 v65 v66 v115), ∀ a x, ((![v65, v115] : Fin 2 → IVec S16 32) a x).toNat < S8x4096.size a := fun v63 v64 v65 v66 v115 k0_hw24 => k0_hw24.2.2.1
theorem k0_idx96_inb : ∀ (v63 : IVec S16 32) (v64 : IVec S16 32) (v65 : IVec S16 32) (v66 : IVec S16 32) (v115 : IVec S16 32) (k0_hw24 : k0_chk24 v63 v64 v65 v66 v115), ∀ a x, ((![v66, v115] : Fin 2 → IVec S16 32) a x).toNat < S8x4096.size a := fun v63 v64 v65 v66 v115 k0_hw24 => k0_hw24.2.2.2
def k0_off22 (k0_t4 : Fin k0_t4_loop.trips) (c0_i32_84 : BitVec 32) : Fin 2 → Nat :=
  let c0_i32_85 : BitVec 32 := 0#32
  let v149 : Index := Scalar.indexCast c0_i32_85
  let c0_i32_79 : BitVec 32 := 0#32
  let c0_i32_53 : BitVec 32 := 0#32
  let c1_i32_55 : BitVec 32 := 1#32
  let arg15 : BitVec 32 := Scf.iv c0_i32_53 c1_i32_55 k0_t4
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v148 : BitVec 32 := Scalar.addi v91 c0_i32_84
  let v150 : Index := Scalar.indexCast v148
  ![0, v150.toNat]
def k0_off23 (k0_t4 : Fin k0_t4_loop.trips) (c0_i32_100 : BitVec 32) : Fin 2 → Nat :=
  let c1_i32_101 : BitVec 32 := 1#32
  let v181 : Index := Scalar.indexCast c1_i32_101
  let c0_i32_79 : BitVec 32 := 0#32
  let c0_i32_53 : BitVec 32 := 0#32
  let c1_i32_55 : BitVec 32 := 1#32
  let arg15 : BitVec 32 := Scf.iv c0_i32_53 c1_i32_55 k0_t4
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v180 : BitVec 32 := Scalar.addi v91 c0_i32_100
  let v182 : Index := Scalar.indexCast v180
  ![1, v182.toNat]
def k0_off24 (k0_t4 : Fin k0_t4_loop.trips) (c0_i32_116 : BitVec 32) : Fin 2 → Nat :=
  let c2_i32_117 : BitVec 32 := 2#32
  let v213 : Index := Scalar.indexCast c2_i32_117
  let c0_i32_79 : BitVec 32 := 0#32
  let c0_i32_53 : BitVec 32 := 0#32
  let c1_i32_55 : BitVec 32 := 1#32
  let arg15 : BitVec 32 := Scf.iv c0_i32_53 c1_i32_55 k0_t4
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v212 : BitVec 32 := Scalar.addi v91 c0_i32_116
  let v214 : Index := Scalar.indexCast v212
  ![2, v214.toNat]
def k0_off25 (k0_t4 : Fin k0_t4_loop.trips) (c0_i32_132 : BitVec 32) : Fin 2 → Nat :=
  let c3_i32_133 : BitVec 32 := 3#32
  let v245 : Index := Scalar.indexCast c3_i32_133
  let c0_i32_79 : BitVec 32 := 0#32
  let c0_i32_53 : BitVec 32 := 0#32
  let c1_i32_55 : BitVec 32 := 1#32
  let arg15 : BitVec 32 := Scf.iv c0_i32_53 c1_i32_55 k0_t4
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v244 : BitVec 32 := Scalar.addi v91 c0_i32_132
  let v246 : Index := Scalar.indexCast v244
  ![3, v246.toNat]
def k0_off26 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c1_i32_57 : BitVec 32 := 1#32
  let v68 : BitVec 32 := Scalar.addi v15 c1_i32_57
  let c8_i32_58 : BitVec 32 := 8#32
  let v69 : BitVec 32 := Scalar.muli v68 c8_i32_58
  let v70 : BitVec 32 := Scalar.addi v2 v69
  let c0_i32_59 : BitVec 32 := 0#32
  ![v70.toNat, 0]
def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c8_i32_61 : BitVec 32 := 8#32
  let v73 : BitVec 32 := Scalar.muli v15 c8_i32_61
  let v74 : BitVec 32 := Scalar.addi v2 v73
  let c4_i32_62 : BitVec 32 := 4#32
  let v75 : BitVec 32 := Scalar.addi v74 c4_i32_62
  let c0_i32_63 : BitVec 32 := 0#32
  ![v75.toNat, 0]
@[reducible] def k0_t5_loop : Scf.Loop 32 :=
  let c0_i32_69 : BitVec 32 := 0#32
  let c32_i32_70 : BitVec 32 := 32#32
  let v82 : BitVec 32 := Scalar.addi c0_i32_69 c32_i32_70
  let c1_i32_71 : BitVec 32 := 1#32
  ⟨c0_i32_69, v82, c1_i32_71⟩
def k0_off28 (k0_t5 : Fin k0_t5_loop.trips) (c0_i32_81 : BitVec 32) : Fin 1 → Nat :=
  let c0_i32_79 : BitVec 32 := 0#32
  let c0_i32_69 : BitVec 32 := 0#32
  let c1_i32_71 : BitVec 32 := 1#32
  let arg15 : BitVec 32 := Scf.iv c0_i32_69 c1_i32_71 k0_t5
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v92 : BitVec 32 := Scalar.addi v91 c0_i32_81
  let v93 : Index := Scalar.indexCast v92
  ![v93.toNat]

def k0_chk25 (v78 : IVec S16 32) (v79 : IVec S16 32) (v80 : IVec S16 32) (v81 : IVec S16 32) (v94 : IVec S16 32) : Prop :=
  (∀ a x, ((![v78, v94] : Fin 2 → IVec S16 32) a x).toNat < S8x4096.size a) ∧
  (∀ a x, ((![v79, v94] : Fin 2 → IVec S16 32) a x).toNat < S8x4096.size a) ∧
  (∀ a x, ((![v80, v94] : Fin 2 → IVec S16 32) a x).toNat < S8x4096.size a) ∧
  (∀ a x, ((![v81, v94] : Fin 2 → IVec S16 32) a x).toNat < S8x4096.size a)
theorem k0_idx97_inb : ∀ (v78 : IVec S16 32) (v79 : IVec S16 32) (v80 : IVec S16 32) (v81 : IVec S16 32) (v94 : IVec S16 32) (k0_hw25 : k0_chk25 v78 v79 v80 v81 v94), ∀ a x, ((![v78, v94] : Fin 2 → IVec S16 32) a x).toNat < S8x4096.size a := fun v78 v79 v80 v81 v94 k0_hw25 => k0_hw25.1
theorem k0_idx105_inb : ∀ (v78 : IVec S16 32) (v79 : IVec S16 32) (v80 : IVec S16 32) (v81 : IVec S16 32) (v94 : IVec S16 32) (k0_hw25 : k0_chk25 v78 v79 v80 v81 v94), ∀ a x, ((![v79, v94] : Fin 2 → IVec S16 32) a x).toNat < S8x4096.size a := fun v78 v79 v80 v81 v94 k0_hw25 => k0_hw25.2.1
theorem k0_idx113_inb : ∀ (v78 : IVec S16 32) (v79 : IVec S16 32) (v80 : IVec S16 32) (v81 : IVec S16 32) (v94 : IVec S16 32) (k0_hw25 : k0_chk25 v78 v79 v80 v81 v94), ∀ a x, ((![v80, v94] : Fin 2 → IVec S16 32) a x).toNat < S8x4096.size a := fun v78 v79 v80 v81 v94 k0_hw25 => k0_hw25.2.2.1
theorem k0_idx121_inb : ∀ (v78 : IVec S16 32) (v79 : IVec S16 32) (v80 : IVec S16 32) (v81 : IVec S16 32) (v94 : IVec S16 32) (k0_hw25 : k0_chk25 v78 v79 v80 v81 v94), ∀ a x, ((![v81, v94] : Fin 2 → IVec S16 32) a x).toNat < S8x4096.size a := fun v78 v79 v80 v81 v94 k0_hw25 => k0_hw25.2.2.2

def k0_chk26 (v78 : IVec S16 32) (v79 : IVec S16 32) (v80 : IVec S16 32) (v81 : IVec S16 32) (v97 : IVec S16 32) : Prop :=
  (∀ a x, ((![v78, v97] : Fin 2 → IVec S16 32) a x).toNat < S8x4096.size a) ∧
  (∀ a x, ((![v79, v97] : Fin 2 → IVec S16 32) a x).toNat < S8x4096.size a) ∧
  (∀ a x, ((![v80, v97] : Fin 2 → IVec S16 32) a x).toNat < S8x4096.size a) ∧
  (∀ a x, ((![v81, v97] : Fin 2 → IVec S16 32) a x).toNat < S8x4096.size a)
theorem k0_idx98_inb : ∀ (v78 : IVec S16 32) (v79 : IVec S16 32) (v80 : IVec S16 32) (v81 : IVec S16 32) (v97 : IVec S16 32) (k0_hw26 : k0_chk26 v78 v79 v80 v81 v97), ∀ a x, ((![v78, v97] : Fin 2 → IVec S16 32) a x).toNat < S8x4096.size a := fun v78 v79 v80 v81 v97 k0_hw26 => k0_hw26.1
theorem k0_idx106_inb : ∀ (v78 : IVec S16 32) (v79 : IVec S16 32) (v80 : IVec S16 32) (v81 : IVec S16 32) (v97 : IVec S16 32) (k0_hw26 : k0_chk26 v78 v79 v80 v81 v97), ∀ a x, ((![v79, v97] : Fin 2 → IVec S16 32) a x).toNat < S8x4096.size a := fun v78 v79 v80 v81 v97 k0_hw26 => k0_hw26.2.1
theorem k0_idx114_inb : ∀ (v78 : IVec S16 32) (v79 : IVec S16 32) (v80 : IVec S16 32) (v81 : IVec S16 32) (v97 : IVec S16 32) (k0_hw26 : k0_chk26 v78 v79 v80 v81 v97), ∀ a x, ((![v80, v97] : Fin 2 → IVec S16 32) a x).toNat < S8x4096.size a := fun v78 v79 v80 v81 v97 k0_hw26 => k0_hw26.2.2.1
theorem k0_idx122_inb : ∀ (v78 : IVec S16 32) (v79 : IVec S16 32) (v80 : IVec S16 32) (v81 : IVec S16 32) (v97 : IVec S16 32) (k0_hw26 : k0_chk26 v78 v79 v80 v81 v97), ∀ a x, ((![v81, v97] : Fin 2 → IVec S16 32) a x).toNat < S8x4096.size a := fun v78 v79 v80 v81 v97 k0_hw26 => k0_hw26.2.2.2

def k0_chk27 (v78 : IVec S16 32) (v79 : IVec S16 32) (v80 : IVec S16 32) (v81 : IVec S16 32) (v100 : IVec S16 32) : Prop :=
  (∀ a x, ((![v78, v100] : Fin 2 → IVec S16 32) a x).toNat < S8x4096.size a) ∧
  (∀ a x, ((![v79, v100] : Fin 2 → IVec S16 32) a x).toNat < S8x4096.size a) ∧
  (∀ a x, ((![v80, v100] : Fin 2 → IVec S16 32) a x).toNat < S8x4096.size a) ∧
  (∀ a x, ((![v81, v100] : Fin 2 → IVec S16 32) a x).toNat < S8x4096.size a)
theorem k0_idx99_inb : ∀ (v78 : IVec S16 32) (v79 : IVec S16 32) (v80 : IVec S16 32) (v81 : IVec S16 32) (v100 : IVec S16 32) (k0_hw27 : k0_chk27 v78 v79 v80 v81 v100), ∀ a x, ((![v78, v100] : Fin 2 → IVec S16 32) a x).toNat < S8x4096.size a := fun v78 v79 v80 v81 v100 k0_hw27 => k0_hw27.1
theorem k0_idx107_inb : ∀ (v78 : IVec S16 32) (v79 : IVec S16 32) (v80 : IVec S16 32) (v81 : IVec S16 32) (v100 : IVec S16 32) (k0_hw27 : k0_chk27 v78 v79 v80 v81 v100), ∀ a x, ((![v79, v100] : Fin 2 → IVec S16 32) a x).toNat < S8x4096.size a := fun v78 v79 v80 v81 v100 k0_hw27 => k0_hw27.2.1
theorem k0_idx115_inb : ∀ (v78 : IVec S16 32) (v79 : IVec S16 32) (v80 : IVec S16 32) (v81 : IVec S16 32) (v100 : IVec S16 32) (k0_hw27 : k0_chk27 v78 v79 v80 v81 v100), ∀ a x, ((![v80, v100] : Fin 2 → IVec S16 32) a x).toNat < S8x4096.size a := fun v78 v79 v80 v81 v100 k0_hw27 => k0_hw27.2.2.1
theorem k0_idx123_inb : ∀ (v78 : IVec S16 32) (v79 : IVec S16 32) (v80 : IVec S16 32) (v81 : IVec S16 32) (v100 : IVec S16 32) (k0_hw27 : k0_chk27 v78 v79 v80 v81 v100), ∀ a x, ((![v81, v100] : Fin 2 → IVec S16 32) a x).toNat < S8x4096.size a := fun v78 v79 v80 v81 v100 k0_hw27 => k0_hw27.2.2.2

def k0_chk28 (v78 : IVec S16 32) (v79 : IVec S16 32) (v80 : IVec S16 32) (v81 : IVec S16 32) (v103 : IVec S16 32) : Prop :=
  (∀ a x, ((![v78, v103] : Fin 2 → IVec S16 32) a x).toNat < S8x4096.size a) ∧
  (∀ a x, ((![v79, v103] : Fin 2 → IVec S16 32) a x).toNat < S8x4096.size a) ∧
  (∀ a x, ((![v80, v103] : Fin 2 → IVec S16 32) a x).toNat < S8x4096.size a) ∧
  (∀ a x, ((![v81, v103] : Fin 2 → IVec S16 32) a x).toNat < S8x4096.size a)
theorem k0_idx100_inb : ∀ (v78 : IVec S16 32) (v79 : IVec S16 32) (v80 : IVec S16 32) (v81 : IVec S16 32) (v103 : IVec S16 32) (k0_hw28 : k0_chk28 v78 v79 v80 v81 v103), ∀ a x, ((![v78, v103] : Fin 2 → IVec S16 32) a x).toNat < S8x4096.size a := fun v78 v79 v80 v81 v103 k0_hw28 => k0_hw28.1
theorem k0_idx108_inb : ∀ (v78 : IVec S16 32) (v79 : IVec S16 32) (v80 : IVec S16 32) (v81 : IVec S16 32) (v103 : IVec S16 32) (k0_hw28 : k0_chk28 v78 v79 v80 v81 v103), ∀ a x, ((![v79, v103] : Fin 2 → IVec S16 32) a x).toNat < S8x4096.size a := fun v78 v79 v80 v81 v103 k0_hw28 => k0_hw28.2.1
theorem k0_idx116_inb : ∀ (v78 : IVec S16 32) (v79 : IVec S16 32) (v80 : IVec S16 32) (v81 : IVec S16 32) (v103 : IVec S16 32) (k0_hw28 : k0_chk28 v78 v79 v80 v81 v103), ∀ a x, ((![v80, v103] : Fin 2 → IVec S16 32) a x).toNat < S8x4096.size a := fun v78 v79 v80 v81 v103 k0_hw28 => k0_hw28.2.2.1
theorem k0_idx124_inb : ∀ (v78 : IVec S16 32) (v79 : IVec S16 32) (v80 : IVec S16 32) (v81 : IVec S16 32) (v103 : IVec S16 32) (k0_hw28 : k0_chk28 v78 v79 v80 v81 v103), ∀ a x, ((![v81, v103] : Fin 2 → IVec S16 32) a x).toNat < S8x4096.size a := fun v78 v79 v80 v81 v103 k0_hw28 => k0_hw28.2.2.2

def k0_chk29 (v78 : IVec S16 32) (v79 : IVec S16 32) (v80 : IVec S16 32) (v81 : IVec S16 32) (v106 : IVec S16 32) : Prop :=
  (∀ a x, ((![v78, v106] : Fin 2 → IVec S16 32) a x).toNat < S8x4096.size a) ∧
  (∀ a x, ((![v79, v106] : Fin 2 → IVec S16 32) a x).toNat < S8x4096.size a) ∧
  (∀ a x, ((![v80, v106] : Fin 2 → IVec S16 32) a x).toNat < S8x4096.size a) ∧
  (∀ a x, ((![v81, v106] : Fin 2 → IVec S16 32) a x).toNat < S8x4096.size a)
theorem k0_idx101_inb : ∀ (v78 : IVec S16 32) (v79 : IVec S16 32) (v80 : IVec S16 32) (v81 : IVec S16 32) (v106 : IVec S16 32) (k0_hw29 : k0_chk29 v78 v79 v80 v81 v106), ∀ a x, ((![v78, v106] : Fin 2 → IVec S16 32) a x).toNat < S8x4096.size a := fun v78 v79 v80 v81 v106 k0_hw29 => k0_hw29.1
theorem k0_idx109_inb : ∀ (v78 : IVec S16 32) (v79 : IVec S16 32) (v80 : IVec S16 32) (v81 : IVec S16 32) (v106 : IVec S16 32) (k0_hw29 : k0_chk29 v78 v79 v80 v81 v106), ∀ a x, ((![v79, v106] : Fin 2 → IVec S16 32) a x).toNat < S8x4096.size a := fun v78 v79 v80 v81 v106 k0_hw29 => k0_hw29.2.1
theorem k0_idx117_inb : ∀ (v78 : IVec S16 32) (v79 : IVec S16 32) (v80 : IVec S16 32) (v81 : IVec S16 32) (v106 : IVec S16 32) (k0_hw29 : k0_chk29 v78 v79 v80 v81 v106), ∀ a x, ((![v80, v106] : Fin 2 → IVec S16 32) a x).toNat < S8x4096.size a := fun v78 v79 v80 v81 v106 k0_hw29 => k0_hw29.2.2.1
theorem k0_idx125_inb : ∀ (v78 : IVec S16 32) (v79 : IVec S16 32) (v80 : IVec S16 32) (v81 : IVec S16 32) (v106 : IVec S16 32) (k0_hw29 : k0_chk29 v78 v79 v80 v81 v106), ∀ a x, ((![v81, v106] : Fin 2 → IVec S16 32) a x).toNat < S8x4096.size a := fun v78 v79 v80 v81 v106 k0_hw29 => k0_hw29.2.2.2

def k0_chk30 (v78 : IVec S16 32) (v79 : IVec S16 32) (v80 : IVec S16 32) (v81 : IVec S16 32) (v109 : IVec S16 32) : Prop :=
  (∀ a x, ((![v78, v109] : Fin 2 → IVec S16 32) a x).toNat < S8x4096.size a) ∧
  (∀ a x, ((![v79, v109] : Fin 2 → IVec S16 32) a x).toNat < S8x4096.size a) ∧
  (∀ a x, ((![v80, v109] : Fin 2 → IVec S16 32) a x).toNat < S8x4096.size a) ∧
  (∀ a x, ((![v81, v109] : Fin 2 → IVec S16 32) a x).toNat < S8x4096.size a)
theorem k0_idx102_inb : ∀ (v78 : IVec S16 32) (v79 : IVec S16 32) (v80 : IVec S16 32) (v81 : IVec S16 32) (v109 : IVec S16 32) (k0_hw30 : k0_chk30 v78 v79 v80 v81 v109), ∀ a x, ((![v78, v109] : Fin 2 → IVec S16 32) a x).toNat < S8x4096.size a := fun v78 v79 v80 v81 v109 k0_hw30 => k0_hw30.1
theorem k0_idx110_inb : ∀ (v78 : IVec S16 32) (v79 : IVec S16 32) (v80 : IVec S16 32) (v81 : IVec S16 32) (v109 : IVec S16 32) (k0_hw30 : k0_chk30 v78 v79 v80 v81 v109), ∀ a x, ((![v79, v109] : Fin 2 → IVec S16 32) a x).toNat < S8x4096.size a := fun v78 v79 v80 v81 v109 k0_hw30 => k0_hw30.2.1
theorem k0_idx118_inb : ∀ (v78 : IVec S16 32) (v79 : IVec S16 32) (v80 : IVec S16 32) (v81 : IVec S16 32) (v109 : IVec S16 32) (k0_hw30 : k0_chk30 v78 v79 v80 v81 v109), ∀ a x, ((![v80, v109] : Fin 2 → IVec S16 32) a x).toNat < S8x4096.size a := fun v78 v79 v80 v81 v109 k0_hw30 => k0_hw30.2.2.1
theorem k0_idx126_inb : ∀ (v78 : IVec S16 32) (v79 : IVec S16 32) (v80 : IVec S16 32) (v81 : IVec S16 32) (v109 : IVec S16 32) (k0_hw30 : k0_chk30 v78 v79 v80 v81 v109), ∀ a x, ((![v81, v109] : Fin 2 → IVec S16 32) a x).toNat < S8x4096.size a := fun v78 v79 v80 v81 v109 k0_hw30 => k0_hw30.2.2.2

def k0_chk31 (v78 : IVec S16 32) (v79 : IVec S16 32) (v80 : IVec S16 32) (v81 : IVec S16 32) (v112 : IVec S16 32) : Prop :=
  (∀ a x, ((![v78, v112] : Fin 2 → IVec S16 32) a x).toNat < S8x4096.size a) ∧
  (∀ a x, ((![v79, v112] : Fin 2 → IVec S16 32) a x).toNat < S8x4096.size a) ∧
  (∀ a x, ((![v80, v112] : Fin 2 → IVec S16 32) a x).toNat < S8x4096.size a) ∧
  (∀ a x, ((![v81, v112] : Fin 2 → IVec S16 32) a x).toNat < S8x4096.size a)
theorem k0_idx103_inb : ∀ (v78 : IVec S16 32) (v79 : IVec S16 32) (v80 : IVec S16 32) (v81 : IVec S16 32) (v112 : IVec S16 32) (k0_hw31 : k0_chk31 v78 v79 v80 v81 v112), ∀ a x, ((![v78, v112] : Fin 2 → IVec S16 32) a x).toNat < S8x4096.size a := fun v78 v79 v80 v81 v112 k0_hw31 => k0_hw31.1
theorem k0_idx111_inb : ∀ (v78 : IVec S16 32) (v79 : IVec S16 32) (v80 : IVec S16 32) (v81 : IVec S16 32) (v112 : IVec S16 32) (k0_hw31 : k0_chk31 v78 v79 v80 v81 v112), ∀ a x, ((![v79, v112] : Fin 2 → IVec S16 32) a x).toNat < S8x4096.size a := fun v78 v79 v80 v81 v112 k0_hw31 => k0_hw31.2.1
theorem k0_idx119_inb : ∀ (v78 : IVec S16 32) (v79 : IVec S16 32) (v80 : IVec S16 32) (v81 : IVec S16 32) (v112 : IVec S16 32) (k0_hw31 : k0_chk31 v78 v79 v80 v81 v112), ∀ a x, ((![v80, v112] : Fin 2 → IVec S16 32) a x).toNat < S8x4096.size a := fun v78 v79 v80 v81 v112 k0_hw31 => k0_hw31.2.2.1
theorem k0_idx127_inb : ∀ (v78 : IVec S16 32) (v79 : IVec S16 32) (v80 : IVec S16 32) (v81 : IVec S16 32) (v112 : IVec S16 32) (k0_hw31 : k0_chk31 v78 v79 v80 v81 v112), ∀ a x, ((![v81, v112] : Fin 2 → IVec S16 32) a x).toNat < S8x4096.size a := fun v78 v79 v80 v81 v112 k0_hw31 => k0_hw31.2.2.2

def k0_chk32 (v78 : IVec S16 32) (v79 : IVec S16 32) (v80 : IVec S16 32) (v81 : IVec S16 32) (v115 : IVec S16 32) : Prop :=
  (∀ a x, ((![v78, v115] : Fin 2 → IVec S16 32) a x).toNat < S8x4096.size a) ∧
  (∀ a x, ((![v79, v115] : Fin 2 → IVec S16 32) a x).toNat < S8x4096.size a) ∧
  (∀ a x, ((![v80, v115] : Fin 2 → IVec S16 32) a x).toNat < S8x4096.size a) ∧
  (∀ a x, ((![v81, v115] : Fin 2 → IVec S16 32) a x).toNat < S8x4096.size a)
theorem k0_idx104_inb : ∀ (v78 : IVec S16 32) (v79 : IVec S16 32) (v80 : IVec S16 32) (v81 : IVec S16 32) (v115 : IVec S16 32) (k0_hw32 : k0_chk32 v78 v79 v80 v81 v115), ∀ a x, ((![v78, v115] : Fin 2 → IVec S16 32) a x).toNat < S8x4096.size a := fun v78 v79 v80 v81 v115 k0_hw32 => k0_hw32.1
theorem k0_idx112_inb : ∀ (v78 : IVec S16 32) (v79 : IVec S16 32) (v80 : IVec S16 32) (v81 : IVec S16 32) (v115 : IVec S16 32) (k0_hw32 : k0_chk32 v78 v79 v80 v81 v115), ∀ a x, ((![v79, v115] : Fin 2 → IVec S16 32) a x).toNat < S8x4096.size a := fun v78 v79 v80 v81 v115 k0_hw32 => k0_hw32.2.1
theorem k0_idx120_inb : ∀ (v78 : IVec S16 32) (v79 : IVec S16 32) (v80 : IVec S16 32) (v81 : IVec S16 32) (v115 : IVec S16 32) (k0_hw32 : k0_chk32 v78 v79 v80 v81 v115), ∀ a x, ((![v80, v115] : Fin 2 → IVec S16 32) a x).toNat < S8x4096.size a := fun v78 v79 v80 v81 v115 k0_hw32 => k0_hw32.2.2.1
theorem k0_idx128_inb : ∀ (v78 : IVec S16 32) (v79 : IVec S16 32) (v80 : IVec S16 32) (v81 : IVec S16 32) (v115 : IVec S16 32) (k0_hw32 : k0_chk32 v78 v79 v80 v81 v115), ∀ a x, ((![v81, v115] : Fin 2 → IVec S16 32) a x).toNat < S8x4096.size a := fun v78 v79 v80 v81 v115 k0_hw32 => k0_hw32.2.2.2
def k0_off29 (k0_t5 : Fin k0_t5_loop.trips) (c0_i32_84 : BitVec 32) : Fin 2 → Nat :=
  let c0_i32_85 : BitVec 32 := 0#32
  let v149 : Index := Scalar.indexCast c0_i32_85
  let c0_i32_79 : BitVec 32 := 0#32
  let c0_i32_69 : BitVec 32 := 0#32
  let c1_i32_71 : BitVec 32 := 1#32
  let arg15 : BitVec 32 := Scf.iv c0_i32_69 c1_i32_71 k0_t5
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v148 : BitVec 32 := Scalar.addi v91 c0_i32_84
  let v150 : Index := Scalar.indexCast v148
  ![0, v150.toNat]
def k0_off30 (k0_t5 : Fin k0_t5_loop.trips) (c0_i32_100 : BitVec 32) : Fin 2 → Nat :=
  let c1_i32_101 : BitVec 32 := 1#32
  let v181 : Index := Scalar.indexCast c1_i32_101
  let c0_i32_79 : BitVec 32 := 0#32
  let c0_i32_69 : BitVec 32 := 0#32
  let c1_i32_71 : BitVec 32 := 1#32
  let arg15 : BitVec 32 := Scf.iv c0_i32_69 c1_i32_71 k0_t5
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v180 : BitVec 32 := Scalar.addi v91 c0_i32_100
  let v182 : Index := Scalar.indexCast v180
  ![1, v182.toNat]
def k0_off31 (k0_t5 : Fin k0_t5_loop.trips) (c0_i32_116 : BitVec 32) : Fin 2 → Nat :=
  let c2_i32_117 : BitVec 32 := 2#32
  let v213 : Index := Scalar.indexCast c2_i32_117
  let c0_i32_79 : BitVec 32 := 0#32
  let c0_i32_69 : BitVec 32 := 0#32
  let c1_i32_71 : BitVec 32 := 1#32
  let arg15 : BitVec 32 := Scf.iv c0_i32_69 c1_i32_71 k0_t5
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v212 : BitVec 32 := Scalar.addi v91 c0_i32_116
  let v214 : Index := Scalar.indexCast v212
  ![2, v214.toNat]
def k0_off32 (k0_t5 : Fin k0_t5_loop.trips) (c0_i32_132 : BitVec 32) : Fin 2 → Nat :=
  let c3_i32_133 : BitVec 32 := 3#32
  let v245 : Index := Scalar.indexCast c3_i32_133
  let c0_i32_79 : BitVec 32 := 0#32
  let c0_i32_69 : BitVec 32 := 0#32
  let c1_i32_71 : BitVec 32 := 1#32
  let arg15 : BitVec 32 := Scf.iv c0_i32_69 c1_i32_71 k0_t5
  let c8_i32_78 : BitVec 32 := 8#32
  let v89 : BitVec 32 := Scalar.muli arg15 c8_i32_78
  let v90 : BitVec 32 := Scalar.addi c0_i32_79 v89
  let c16_i32_80 : BitVec 32 := 16#32
  let v91 : BitVec 32 := Scalar.muli v90 c16_i32_80
  let v244 : BitVec 32 := Scalar.addi v91 c0_i32_132
  let v246 : Index := Scalar.indexCast v244
  ![3, v246.toNat]
def k0_off33 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  let c0_i32_2 : BitVec 32 := 0#32
  let c1_i32 : BitVec 32 := 1#32
  let arg14 : BitVec 32 := Scf.iv c0_i32_2 c1_i32 k0_t1
  let c2_i32_9 : BitVec 32 := 2#32
  let v14 : BitVec 32 := Scalar.muli arg14 c2_i32_9
  let v15 : BitVec 32 := Scalar.addi c0_i32_10 v14
  let c1_i32_73 : BitVec 32 := 1#32
  let v83 : BitVec 32 := Scalar.addi v15 c1_i32_73
  let c8_i32_74 : BitVec 32 := 8#32
  let v84 : BitVec 32 := Scalar.muli v83 c8_i32_74
  let v85 : BitVec 32 := Scalar.addi v2 v84
  let c4_i32_75 : BitVec 32 := 4#32
  let v86 : BitVec 32 := Scalar.addi v85 c4_i32_75
  let c0_i32_76 : BitVec 32 := 0#32
  ![v86.toNat, 0]
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c248_i32 : BitVec 32 := 248#32
  let v7 : BitVec 32 := Scalar.addi v2 c248_i32
  let c0_i32_4 : BitVec 32 := 0#32
  ![v7.toNat, 0]
def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c248_i32_6 : BitVec 32 := 248#32
  let v10 : BitVec 32 := Scalar.addi v2 c248_i32_6
  let c4_i32 : BitVec 32 := 4#32
  let v11 : BitVec 32 := Scalar.addi v10 c4_i32
  let c0_i32_7 : BitVec 32 := 0#32
  ![v11.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S8192x4096, .f32⟩
  | .hbm, ⟨21, _⟩ => ⟨S8192x4096, .i1⟩
  | .hbm, ⟨22, _⟩ => ⟨S_, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Tile.lean ====
/-
  The tile program, restated: the four shuffle loops are one program over a staging buffer, an
  output buffer and four row numbers, and the copies are four short programs over an offset. The
  printed body of the kernel is this program, by unfolding.
-/
module

public import proofs.«01_k».proof.Proof.Gen.KernelIdeal

@[expose] public section

noncomputable section

namespace Cert.KernelIdeal.Tile

open Idealize.ShloMosaic Idealize.SL.Sem Cert.KernelIdeal Cert.KernelIdeal.Gen

variable {F : FTy → Type} [FloatOps F]

/-- A program of the tile at grid position `i`. -/
abbrev TP (F : FTy → Type) (i : grid0.Coords) : Type → Type 1 :=
  Prog (TpuEff nD τ sig (Elt F) Λ₀ (.scVector ((i 0).castLE hcore0) ((i 1).castLE hsub0)))

/-- Run the programs `f 0`, …, `f (n-1)` in order and keep what each returned. -/
def inTurn {i : grid0.Coords} {α : Type} : (n : Nat) → (Fin n → TP F i α) → TP F i (Fin n → α)
  | 0, _ => pure Fin.elim0
  | n + 1, f => do
    let a ← f 0
    let rest ← inTurn n fun j => f j.succ
    pure (Fin.cons a rest)

/-- The sixteen words of the column list at group `u` of trip `t`, with the check that each of the
    four rows at each of the words is inside a staging buffer. -/
def words (i : grid0.Coords) (perm : Memref sig .scVector .vmem S4096 .i32) (r0 r1 r2 r3 : IVec S16 32)
    (t : Fin k0_t2_loop.trips) (u : Fin 8) : TP F i (Σ' v : Vec F S16 .i32, k0_chk1 r0 r1 r2 r3 v) := do
  let v : Vec F S16 .i32 ← Prog.lift (.load perm (Rect.unit (s := S4096) (k0_off5 t (BitVec.ofNat 32 (16 * u.val))) S16.size (k0_off5_inb t u)).toLoadRect (View.loadsAt_vmem h_S16))
  have h : k0_chk1 r0 r1 r2 r3 v := (← Prog.lift (TpuEff.assume (k0_chk1 r0 r1 r2 r3 v) (k0_chk1.dec r0 r1 r2 r3 v))).down
  pure ⟨v, h⟩

/-- Each of the four rows at sixteen checked words is inside the staging buffer. -/
theorem pick_inb {r0 r1 r2 r3 v : IVec S16 32} (h : k0_chk1 r0 r1 r2 r3 v) (r : Fin 4) :
    ∀ a x, ((![![r0, r1, r2, r3] r, v] : Fin 2 → IVec S16 32) a x).toNat < S8x4096.size a := by
  match r with
  | 0 => exact h.1
  | 1 => exact h.2.1
  | 2 => exact h.2.2.1
  | 3 => exact h.2.2.2

/-- Sixteen elements of row `r` of a staging buffer, at the sixteen words `w`. -/
def pick (i : grid0.Coords) (src : Memref sig .scVector .vmem S8x4096 .f32) (r0 r1 r2 r3 : IVec S16 32)
    (w : Σ' v : Vec F S16 .i32, k0_chk1 r0 r1 r2 r3 v) (r : Fin 4) : TP F i (Vec F S16 .f32) :=
  SparseCore.vectorLoadIdx src ![![r0, r1, r2, r3] r, w.1] (pick_inb w.2 r) (View.loads_vmem h_S8x4096)

/-- Where group `u` of trip `t` is stored in row `r` of an output buffer. -/
def putOff (t : Fin k0_t2_loop.trips) (r : Fin 4) (u : Fin 8) : Fin 2 → Nat :=
  ![k0_off6 t (BitVec.ofNat 32 (16 * u.val)), k0_off7 t (BitVec.ofNat 32 (16 * u.val)),
    k0_off8 t (BitVec.ofNat 32 (16 * u.val)), k0_off9 t (BitVec.ofNat 32 (16 * u.val))] r

theorem putOff_inb (t : Fin k0_t2_loop.trips) (r : Fin 4) (u : Fin 8) :
    ∀ a, putOff t r u a + S1x16.size a ≤ S4x4096.size a := by
  match r with
  | 0 => exact k0_off6_inb t u
  | 1 => exact k0_off7_inb t u
  | 2 => exact k0_off8_inb t u
  | 3 => exact k0_off9_inb t u

theorem putOff_eq (t : Fin k0_t2_loop.trips) (r : Fin 4) (u : Fin 8) :
    putOff t r u = ![r.val, 128 * t.val + 16 * u.val] := by
  match r with
  | 0 => exact k0_off6_eq t u
  | 1 => exact k0_off7_eq t u
  | 2 => exact k0_off8_eq t u
  | 3 => exact k0_off9_eq t u

/-- Store sixteen elements at group `u` of trip `t` of row `r` of an output buffer (the store reads
    the place first and drops what it read). -/
def put (i : grid0.Coords) (dst : Memref sig .scVector .vmem S4x4096 .f32) (t : Fin k0_t2_loop.trips)
    (v : Vec F S16 .f32) (r : Fin 4) (u : Fin 8) : TP F i PUnit := do
  let _ : Vec F S1x16 .f32 ← Prog.lift (.load dst (Rect.unit (s := S4x4096) (putOff t r u) S1x16.size (putOff_inb t r u)).toLoadRect (View.loadsAt_vmem h_S1x16))
  Prog.lift (.store dst (Rect.unit (s := S4x4096) (putOff t r u) S1x16.size (putOff_inb t r u)) (shapeCast S1x16 v shapeCasts_S16_S1x16) Finset.univ (View.stores_vmem_bits_univ h_S1x16 rfl) (.inl rfl))

/-- One trip of a shuffle loop: 128 columns of four rows. -/
def shuffle (i : grid0.Coords) (perm : Memref sig .scVector .vmem S4096 .i32) (src : Memref sig .scVector .vmem S8x4096 .f32)
    (dst : Memref sig .scVector .vmem S4x4096 .f32) (r0 r1 r2 r3 : IVec S16 32) (t : Fin k0_t2_loop.trips) : TP F i PUnit := do
  let ws ← inTurn 8 (words i perm r0 r1 r2 r3 t)
  let vs ← inTurn 4 fun r => inTurn 8 fun u => pick i src r0 r1 r2 r3 (ws u) r
  let _ ← inTurn 4 fun r => inTurn 8 fun u => put i dst t (vs r u) r u
  pure ⟨⟩

/-- Start the copy of eight rows of `x` into a staging buffer. -/
def fetch (i : grid0.Coords) (x : Memref sig .scVector .hbm S8192x4096 .f32) (off : Fin 2 → Nat)
    (hoff : ∀ a, off a + S8x4096.size a ≤ S8192x4096.size a) (buf : Memref sig .scVector .vmem S8x4096 .f32) (hbuf : buf.IsWhole)
    (sem : DmaSem sig) : TP F i PUnit :=
  Prog.lift (.enqueueDma (x.slice (Rect.unit (s := S8192x4096) off S8x4096.size hoff) (fun _ => rfl)) (.here buf) (.dma sem) (View.wordExact_bits rfl) hbuf.wordExact ⟨Or.inl rfl, trivial⟩)

/-- Wait for the copy of eight rows of `x` into a staging buffer. -/
def fetchWait (i : grid0.Coords) (x : Memref sig .scVector .hbm S8192x4096 .f32) (off : Fin 2 → Nat)
    (hoff : ∀ a, off a + S8x4096.size a ≤ S8192x4096.size a) (buf : Memref sig .scVector .vmem S8x4096 .f32) (hbuf : buf.IsWhole)
    (sem : DmaSem sig) : TP F i PUnit :=
  Prog.lift (.waitDma2 sem (x.slice (Rect.unit (s := S8192x4096) off S8x4096.size hoff) (fun _ => rfl)) buf (View.wordExact_bits rfl) hbuf.wordExact)

/-- Start the copy of an output buffer to four rows of `o`. -/
def send (i : grid0.Coords) (o : Memref sig .scVector .hbm S8192x4096 .f32) (off : Fin 2 → Nat)
    (hoff : ∀ a, off a + S4x4096.size a ≤ S8192x4096.size a) (buf : Memref sig .scVector .vmem S4x4096 .f32) (hbuf : buf.IsWhole)
    (sem : DmaSem sig) : TP F i PUnit :=
  Prog.lift (.enqueueDma buf (.here (o.slice (Rect.unit (s := S8192x4096) off S4x4096.size hoff) (fun _ => rfl))) (.dma sem) hbuf.wordExact (View.wordExact_bits rfl) ⟨Or.inl rfl, trivial⟩)

/-- Wait for the copy of an output buffer to four rows of `o`. -/
def sendWait (i : grid0.Coords) (o : Memref sig .scVector .hbm S8192x4096 .f32) (off : Fin 2 → Nat)
    (hoff : ∀ a, off a + S4x4096.size a ≤ S8192x4096.size a) (buf : Memref sig .scVector .vmem S4x4096 .f32) (hbuf : buf.IsWhole)
    (sem : DmaSem sig) : TP F i PUnit :=
  Prog.lift (.waitDma2 sem buf (o.slice (Rect.unit (s := S8192x4096) off S4x4096.size hoff) (fun _ => rfl)) hbuf.wordExact (View.wordExact_bits rfl))

/-- The first half of an outer trip. -/
def tripA (i : grid0.Coords) (arg2 : Memref sig .scVector .hbm S8192x4096 .f32) (arg4 : Memref sig .scVector .hbm S8192x4096 .f32)
    (arg5 : Memref sig .scVector .vmem S4096 .i32)
    (arg6 : Memref sig .scVector .vmem S8x4096 .f32) (harg6 : arg6.IsWhole) (arg7 : Memref sig .scVector .vmem S8x4096 .f32) (harg7 : arg7.IsWhole)
    (arg8 : Memref sig .scVector .vmem S4x4096 .f32) (harg8 : arg8.IsWhole) (arg9 : Memref sig .scVector .vmem S4x4096 .f32) (harg9 : arg9.IsWhole)
    (arg10 arg11 arg12 arg13 : DmaSems sig S_) (k0_t1 : Fin k0_t1_loop.trips) : TP F i (Σ' (_ : BitVec 32) (_ : IVec S16 32), BitVec 32) := do
  fetch i arg2 (k0_off2 i k0_t1) (k0_off2_inb i k0_t1) arg7 harg7 arg11.sem
  fetchWait i arg2 (k0_off3 i k0_t1) (k0_off3_inb i k0_t1) arg6 harg6 arg10.sem
  if h : k0_cond1 k0_t1 = 1#1 then do
    sendWait i arg4 (k0_off4 i k0_t1) (k0_off4_inb i k0_t1 h) arg8 harg8 arg12.sem
    pure ⟨⟩
  else do
    pure ⟨⟩
  Scf.Loop.for k0_t2_loop k0_t2_ok ⟨⟩ fun t _ => shuffle i arg5 arg6 arg8 (broadcast S16 0#32) (broadcast S16 1#32) (broadcast S16 2#32) (broadcast S16 3#32) t
  send i arg4 (k0_off10 i k0_t1) (k0_off10_inb i k0_t1) arg8 harg8 arg12.sem
  if h : k0_cond2 k0_t1 = 1#1 then do
    sendWait i arg4 (k0_off11 i k0_t1) (k0_off11_inb i k0_t1 h) arg9 harg9 arg13.sem
    pure ⟨⟩
  else do
    pure ⟨⟩
  pure ⟨Scalar.addi 0#32 (Scalar.muli (Scf.iv 0#32 1#32 k0_t1) 2#32), broadcast S16 4#32, 5#32⟩

/-- The middle of an outer trip: from the second shuffle to the third. -/
def tripB (i : grid0.Coords) (arg2 : Memref sig .scVector .hbm S8192x4096 .f32) (arg4 : Memref sig .scVector .hbm S8192x4096 .f32)
    (arg5 : Memref sig .scVector .vmem S4096 .i32)
    (arg6 : Memref sig .scVector .vmem S8x4096 .f32) (harg6 : arg6.IsWhole) (arg7 : Memref sig .scVector .vmem S8x4096 .f32) (harg7 : arg7.IsWhole)
    (arg8 : Memref sig .scVector .vmem S4x4096 .f32) (harg8 : arg8.IsWhole) (arg9 : Memref sig .scVector .vmem S4x4096 .f32) (harg9 : arg9.IsWhole)
    (arg10 arg11 arg12 arg13 : DmaSems sig S_) (k0_t1 : Fin k0_t1_loop.trips)
    (v40 : IVec S16 32) (c5 : BitVec 32) : TP F i PUnit := do
  Scf.Loop.for k0_t3_loop k0_t3_ok ⟨⟩ fun t _ => shuffle i arg5 arg6 arg9 v40 (broadcast S16 c5) (broadcast S16 6#32) (broadcast S16 7#32) t
  send i arg4 (k0_off17 i k0_t1) (k0_off17_inb i k0_t1) arg9 harg9 arg13.sem
  if h : k0_cond3 k0_t1 = 1#1 then do
    fetch i arg2 (k0_off18 i k0_t1) (k0_off18_inb i k0_t1 h) arg6 harg6 arg10.sem
    pure ⟨⟩
  else do
    pure ⟨⟩
  fetchWait i arg2 (k0_off19 i k0_t1) (k0_off19_inb i k0_t1) arg7 harg7 arg11.sem
  sendWait i arg4 (k0_off20 i k0_t1) (k0_off20_inb i k0_t1) arg8 harg8 arg12.sem
  Scf.Loop.for k0_t4_loop k0_t4_ok ⟨⟩ fun t _ => shuffle i arg5 arg7 arg8 (broadcast S16 0#32) (broadcast S16 1#32) (broadcast S16 2#32) (broadcast S16 3#32) t
  pure ⟨⟩

/-- The end of an outer trip: the third output copy and the fourth shuffle with its copy. -/
def tripC (i : grid0.Coords) (arg2 : Memref sig .scVector .hbm S8192x4096 .f32) (arg4 : Memref sig .scVector .hbm S8192x4096 .f32)
    (arg5 : Memref sig .scVector .vmem S4096 .i32)
    (arg6 : Memref sig .scVector .vmem S8x4096 .f32) (harg6 : arg6.IsWhole) (arg7 : Memref sig .scVector .vmem S8x4096 .f32) (harg7 : arg7.IsWhole)
    (arg8 : Memref sig .scVector .vmem S4x4096 .f32) (harg8 : arg8.IsWhole) (arg9 : Memref sig .scVector .vmem S4x4096 .f32) (harg9 : arg9.IsWhole)
    (arg10 arg11 arg12 arg13 : DmaSems sig S_) (k0_t1 : Fin k0_t1_loop.trips) : TP F i PUnit := do
  send i arg4 (k0_off26 i k0_t1) (k0_off26_inb i k0_t1) arg8 harg8 arg12.sem
  sendWait i arg4 (k0_off27 i k0_t1) (k0_off27_inb i k0_t1) arg9 harg9 arg13.sem
  Scf.Loop.for k0_t5_loop k0_t5_ok ⟨⟩ fun t _ => shuffle i arg5 arg7 arg9 (broadcast S16 4#32) (broadcast S16 5#32) (broadcast S16 6#32) (broadcast S16 7#32) t
  send i arg4 (k0_off33 i k0_t1) (k0_off33_inb i k0_t1) arg9 harg9 arg13.sem
  pure ⟨⟩

/-- An outer trip: two blocks of eight rows. -/
def trip (i : grid0.Coords) (arg2 : Memref sig .scVector .hbm S8192x4096 .f32) (arg4 : Memref sig .scVector .hbm S8192x4096 .f32)
    (arg5 : Memref sig .scVector .vmem S4096 .i32)
    (arg6 : Memref sig .scVector .vmem S8x4096 .f32) (harg6 : arg6.IsWhole) (arg7 : Memref sig .scVector .vmem S8x4096 .f32) (harg7 : arg7.IsWhole)
    (arg8 : Memref sig .scVector .vmem S4x4096 .f32) (harg8 : arg8.IsWhole) (arg9 : Memref sig .scVector .vmem S4x4096 .f32) (harg9 : arg9.IsWhole)
    (arg10 arg11 arg12 arg13 : DmaSems sig S_) (k0_t1 : Fin k0_t1_loop.trips) : TP F i PUnit := do
  let ⟨_, v40, c5⟩ ← tripA i arg2 arg4 arg5 arg6 harg6 arg7 harg7 arg8 harg8 arg9 harg9 arg10 arg11 arg12 arg13 k0_t1
  tripB i arg2 arg4 arg5 arg6 harg6 arg7 harg7 arg8 harg8 arg9 harg9 arg10 arg11 arg12 arg13 k0_t1 v40 c5
  tripC i arg2 arg4 arg5 arg6 harg6 arg7 harg7 arg8 harg8 arg9 harg9 arg10 arg11 arg12 arg13 k0_t1

/-- The tile's program. -/
def tile (i : grid0.Coords) (arg2 : Memref sig .scVector .hbm S8192x4096 .f32)
    (arg3 : Memref sig .scVector .hbm S4096 .i32) (harg3 : arg3.IsWhole) (arg4 : Memref sig .scVector .hbm S8192x4096 .f32)
    (arg5 : Memref sig .scVector .vmem S4096 .i32) (harg5 : arg5.IsWhole)
    (arg6 : Memref sig .scVector .vmem S8x4096 .f32) (harg6 : arg6.IsWhole) (arg7 : Memref sig .scVector .vmem S8x4096 .f32) (harg7 : arg7.IsWhole)
    (arg8 : Memref sig .scVector .vmem S4x4096 .f32) (harg8 : arg8.IsWhole) (arg9 : Memref sig .scVector .vmem S4x4096 .f32) (harg9 : arg9.IsWhole)
    (arg10 arg11 arg12 arg13 v14_r0 : DmaSems sig S_) : TP F i PUnit := do
  Prog.lift (.enqueueDma arg3 (.here arg5) (.dma v14_r0.sem) harg3.wordExact harg5.wordExact ⟨Or.inl rfl, trivial⟩)
  Prog.lift (.waitDma2 v14_r0.sem arg3 arg5 harg3.wordExact harg5.wordExact)
  fetch i arg2 (k0_off1 i) (k0_off1_inb i) arg6 harg6 arg10.sem
  Scf.Loop.for k0_t1_loop k0_t1_ok ⟨⟩ fun t _ => trip i arg2 arg4 arg5 arg6 harg6 arg7 harg7 arg8 harg8 arg9 harg9 arg10 arg11 arg12 arg13 t
  sendWait i arg4 (k0_off34 i) (k0_off34_inb i) arg8 harg8 arg12.sem
  sendWait i arg4 (k0_off35 i) (k0_off35_inb i) arg9 harg9 arg13.sem
  pure ⟨⟩

end Cert.KernelIdeal.Tile
-- ==== Proof.Setup.lean ====
/-
  The setting of the proof: the program as the launch theorem sees it, the tile's thread, what a
  buffer holds, and how a tile program's steps compose.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Tile

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the launch handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-- The thread of the tile at grid position `i` of device `d`. -/
abbrev vt (d : Dev nD) (i : grid0.Coords) : Thread nD τ := V d ((i 0).castLE hcore0) ((i 1).castLE hsub0)

/-! ## The values -/

/-- The column of `x` that column `j` of the result is: word `j` of the list. -/
def col (pv : S4096.Idx → BitVec 32) (j : Fin 4096) : Fin 4096 :=
  ⟨(pv (ix1 j)).toNat % 4096, Nat.mod_lt _ (by omega)⟩

/-- The result: `x` with its columns in the order the list names. -/
def result (X : S8192x4096.Idx → F .f32) (pv : S4096.Idx → BitVec 32) : S8192x4096.Idx → F .f32 :=
  fun y => X (ix2 (y 0) (col pv (y 1)))

/-- Eight rows of `x` from row `b`. -/
def block (X : S8192x4096.Idx → F .f32) (b : Nat) : S8x4096.Idx → F .f32 :=
  fun y => X (ix2 ⟨(b + (y 0).val) % 8192, Nat.mod_lt _ (by omega)⟩ (y 1))

/-- Row `r` of the upper (`h = 0`) or lower (`h = 1`) four rows of eight. -/
def row8 (h : Fin 2) (r : Fin 4) : Fin 8 := ⟨4 * h.val + r.val, by omega⟩

/-- Four rows of eight, their columns in the order the list names. -/
def shuffled (h : Fin 2) (g : S8x4096.Idx → F .f32) (pv : S4096.Idx → BitVec 32) : S4x4096.Idx → F .f32 :=
  fun y => g (ix2 (row8 h (y 0)) (col pv (y 1)))

/-! ## What a buffer holds -/

/-- The tile at `i` owns the buffer under `m`, and what `m` reads there satisfies `φ`. -/
def Holds (d : Dev nD) (i : grid0.Coords) {sp : Space} {s : Shape} {e : EltTy} (m : Memref sig .scVector sp s e)
    (φ : (s.Idx → Elt F e) → Prop) : sProp 𝕄 :=
  iprop(∃ f : Buf (Elt F) (m.view.loc (vt d i)), ⌜φ (m.view.read (Elt F) f)⌝ ∗ m.view.loc (vt d i) ↦{fullShare} f)

theorem Holds_mono (d : Dev nD) (i : grid0.Coords) {sp : Space} {s : Shape} {e : EltTy} {m : Memref sig .scVector sp s e}
    {φ ψ : (s.Idx → Elt F e) → Prop} (h : ∀ g, φ g → ψ g) : (Holds d i m φ : sProp 𝕄) ⊢ Holds d i m ψ := by
  unfold Holds
  iintro ⟨%f, %hf, H⟩
  iexists f
  isplitr; · ipureintro; exact h _ hf
  iexact H

/-! ## Composing a tile program's steps -/

variable [FloatOps F]

/-- The tile's program `p` runs and ends as `Q`. -/
abbrev Runs (d : Dev nD) (i : grid0.Coords) {α : Type} (p : TP F i α) (Q : α → sProp 𝕄) : sProp 𝕄 :=
  wp frame (wpE (defs₀ (F := F)) 𝒱₀ (vt d i) none) Set.univ p Q

theorem step {d : Dev nD} {i : grid0.Coords} {α β : Type} {P : sProp 𝕄} {p : TP F i α} {R : α → sProp 𝕄}
    (h : P ⊢ Runs d i p R) {k : α → TP F i β} {Q : β → sProp 𝕄} :
    P ⊢ iprop((∀ a, R a -∗ Runs d i (k a) Q) -∗ Runs d i (p >>= k) Q) := by
  unfold Runs
  rw [wp_bind]
  exact h.trans (wp_wand frame _ _)

theorem run_pure {d : Dev nD} {i : grid0.Coords} {α : Type} (a : α) {Q : α → sProp 𝕄} :
    Q a ⊢ Runs d i (pure a) Q := by
  unfold Runs
  rw [wp_pure]
  iintro H; imodintro; iexact H

/-- Programs run in order: `J j` before the `j`-th, `J (j+1)` after it, and `φ j` of what it returned. -/
theorem run_inTurn {d : Dev nD} {i : grid0.Coords} {α : Type} : ∀ {n : Nat} {f : Fin n → TP F i α} (φ : Fin n → α → Prop) (J : Nat → sProp 𝕄)
    (_ : ∀ j : Fin n, J j.val ⊢ Runs d i (f j) fun a => iprop(⌜φ j a⌝ ∗ J (j.val + 1))),
    J 0 ⊢ Runs d i (inTurn n f) fun vs => iprop(⌜∀ j, φ j (vs j)⌝ ∗ J n)
  | 0, f, φ, J, _ => by
    refine BIBase.Entails.trans ?_ (run_pure (F := F) _)
    iintro H
    isplitr; · ipureintro; exact fun j => j.elim0
    iexact H
  | n + 1, f, φ, J, h => by
    unfold inTurn
    iintro H
    iapply (step (show J 0 ⊢ Runs d i (f 0) (fun a => iprop(⌜φ 0 a⌝ ∗ J 1)) from h 0)) $$ H
    iintro %a ⟨%ha, H⟩
    iapply (step (run_inTurn (f := fun j => f j.succ) (fun j => φ j.succ) (fun j => J (j + 1)) fun j => h j.succ)) $$ H
    iintro %vs ⟨%hvs, H⟩
    iapply (run_pure (F := F))
    isplitr
    · ipureintro
      intro j
      refine Fin.cases ?_ (fun j => ?_) j
      · exact ha
      · exact hvs j
    iexact H

/-- A loop of the tile: `J k` before trip `k`. -/
theorem run_for {d : Dev nD} {i : grid0.Coords} {l : Scf.Loop 32} {hok : l.OK} (J : Nat → sProp 𝕄) {body : Fin l.trips → PUnit → TP F i PUnit}
    (h : ∀ t : Fin l.trips, J t.val ⊢ Runs d i (body t ⟨⟩) fun _ => J (t.val + 1)) :
    J 0 ⊢ Runs d i (Scf.Loop.for l hok ⟨⟩ body) fun _ => J l.trips := by
  refine BIBase.Entails.trans ?_ (Scf.wp_for frame _ _ l.lb l.ub l.st hok ⟨⟩ body (fun k _ => J k) (fun k _ => h k))
  iintro H
  isplitl [H]; · iexact H
  iintro %_ H; iexact H

end Cert.KernelIdeal.Tile
-- ==== Proof.Shuffle.lean ====
/-
  What a shuffle does: sixteen words of the list at a time, it stores in row `r` of the output
  buffer, at those columns, the elements of a row of the staging buffer that the words name.
-/
module

public import proofs.«01_k».proof.Proof.Setup

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)

variable {F : FTy → Type} [FloatOps F] {d : Dev nD} {i : grid0.Coords}

local notation "𝕄" => MT nD τ sig (HIx 1) (Elt F) ℕ UU ℕ

/-! ## One load, one store, one check -/

theorem run_load {sp : CoreSpace} {s : Shape} {e : EltTy} {m : Memref sig .scVector sp s e} {r : LoadRect s} {hl : m.view.LoadsAt r}
    {φ : (s.Idx → Elt F e) → Prop} :
    (Holds d i m φ : sProp 𝕄)
      ⊢ Runs d i (Prog.lift (.load m r hl)) fun v => iprop(⌜∃ g, φ g ∧ v = fun y => g (r.idx y)⌝ ∗ Holds d i m φ) := by
  unfold Holds
  iintro ⟨%f, %hf, H⟩
  iapply (wp_load 𝒱₀ (vt d i) none Set.univ (k := .ret) (S := Finset.univ) (Finset.subset_univ _)) $$ H
  iintro H
  iapply (run_pure (F := F))
  isplitr; · ipureintro; exact ⟨_, hf, rfl⟩
  iexists f
  isplitr; · ipureintro; exact hf
  iexact H

theorem run_store {sp : CoreSpace} {s : Shape} {e : EltTy} {m : Memref sig .scVector sp s e} {r : Rect s} {w : r.shape.Idx → Elt F e}
    {hx : (m.access r).Stores Finset.univ} {hm : (Finset.univ : Finset r.shape.Idx) = Finset.univ ∨ ∀ a, r.stride a = 1}
    {φ ψ : (s.Idx → Elt F e) → Prop}
    (h : ∀ g g', φ g → (∀ y, g' (r.emb y) = w y) → (∀ x, x ∉ r.set → g' x = g x) → ψ g') :
    (Holds d i m φ : sProp 𝕄) ⊢ Runs d i (Prog.lift (.store m r w Finset.univ hx hm)) fun _ => Holds d i m ψ := by
  unfold Holds
  iintro ⟨%f, %hf, H⟩
  iapply (wp_store (defs := defs₀ (F := F)) (m := m) (r := r) (w := w) (hx := hx) (hm := hm) 𝒱₀ (vt d i) none Set.univ (k := .ret) (S := Finset.univ) (f := f) (Finset.subset_univ _)) $$ H
  iintro H
  iapply (run_pure (F := F))
  iexists _
  isplitr
  rotate_left
  · iexact H
  · ipureintro
    refine h _ _ hf (fun y => ?_) fun x hx => ?_
    · exact View.read_slice_write_emb (v := m.view) r f w (Finset.mem_univ y)
    · exact View.read_slice_write_of_not_mem (v := m.view) r f w Finset.univ (by rwa [Rect.map_emb_univ])

theorem run_check {P : Prop} {dP : Decidable P} (h : P) {R : sProp 𝕄} :
    R ⊢ Runs d i (Prog.lift (TpuEff.assume P dP)) fun _ => R := by
  unfold Runs
  show R ⊢ wp frame _ _ (Prog.op (TpuEff.assume P dP) Prog.ret) _
  rw [wp_assume_of 𝒱₀ (vt d i) none Set.univ h]
  exact run_pure (F := F) (Q := fun _ => R) _

/-! ## The words of a group -/

theorem trips_eq : k0_t2_loop.trips = 32 := by decide

/-- Lane `y` of group `u` of trip `t`, as a column. -/
def lane (t : Fin k0_t2_loop.trips) (u : Fin 8) (y : Fin 16) : Fin 4096 :=
  ⟨128 * t.val + 16 * u.val + y.val, by have := t.isLt.trans_eq trips_eq; omega⟩

theorem run_words {perm : Memref sig .scVector .vmem S4096 .i32} {pv : S4096.Idx → BitVec 32} (hpv : ∀ j, (pv j).toNat < 4096)
    {r0 r1 r2 r3 : IVec S16 32} (hr : ∀ (k : Fin 4) y, (![r0, r1, r2, r3] k y).toNat < 8) (t : Fin k0_t2_loop.trips) (u : Fin 8) :
    (Holds d i perm (· = pv) : sProp 𝕄)
      ⊢ Runs d i (words i perm r0 r1 r2 r3 t u) fun w => iprop(⌜∀ y, w.1 y = pv (ix1 (lane t u (y 0)))⌝ ∗ Holds d i perm (· = pv)) := by
  unfold words
  iintro H
  iapply (step run_load) $$ H
  iintro %v ⟨%hv, H⟩
  have hv' : ∀ y, v y = pv (ix1 (lane t u (y 0))) := by
    obtain ⟨g, hg, hv⟩ := hv
    intro y
    rw [hv, hg]
    refine congrArg pv (funext fun a => ?_)
    match a with
    | ⟨0, _⟩ =>
      refine Fin.ext ?_
      show k0_off5 t (BitVec.ofNat 32 (16 * u.val)) 0 + 1 * (y 0).val = 128 * t.val + 16 * u.val + (y 0).val
      have e : k0_off5 t (BitVec.ofNat 32 (16 * u.val)) 0 = 128 * t.val + 16 * u.val := congrFun (k0_off5_eq t u) 0
      omega
  have hrow : ∀ k : Fin 4, ∀ a x, ((![![r0, r1, r2, r3] k, v] : Fin 2 → IVec S16 32) a x).toNat < S8x4096.size a := fun k a x => by
    match a with
    | ⟨0, _⟩ => exact hr k x
    | ⟨1, _⟩ => exact lt_of_eq_of_lt (congrArg BitVec.toNat (hv' x)) (hpv _)
  have hc : k0_chk1 r0 r1 r2 r3 v := ⟨hrow 0, hrow 1, hrow 2, hrow 3⟩
  iapply (step (run_check hc)) $$ H
  iintro %_ H
  iapply (run_pure (F := F))
  isplitr; · ipureintro; exact hv'
  iexact H

/-! ## Sixteen elements of a row -/

theorem run_pick {src : Memref sig .scVector .vmem S8x4096 .f32} {g : S8x4096.Idx → F .f32} {pv : S4096.Idx → BitVec 32} {h : Fin 2}
    {r0 r1 r2 r3 : IVec S16 32} (hr : ∀ (k : Fin 4) y, (![r0, r1, r2, r3] k y).toNat = 4 * h.val + k.val)
    {w : Σ' v : Vec F S16 .i32, k0_chk1 r0 r1 r2 r3 v} {t : Fin k0_t2_loop.trips} {u : Fin 8}
    (hw : ∀ y, w.1 y = pv (ix1 (lane t u (y 0)))) (r : Fin 4) :
    (Holds d i src (· = g) : sProp 𝕄)
      ⊢ Runs d i (pick i src r0 r1 r2 r3 w r) fun v =>
          iprop(⌜∀ y, v y = g (ix2 (row8 h r) (col pv (lane t u (y 0))))⌝ ∗ Holds d i src (· = g)) := by
  unfold Holds
  iintro ⟨%f, %hf, H⟩
  unfold pick
  have e : ∀ p : TP F i (Vec F S16 .f32), p = (p >>= pure) := fun p => (bind_pure p).symm
  rw [e (SparseCore.vectorLoadIdx _ _ _ _)]
  iapply (SparseCore.wp_vectorLoadIdx (defs := defs₀ (F := F)) (base := src) 𝒱₀ (vt d i) none Set.univ (S := Finset.univ) (q := fullShare) (f := f) (Finset.subset_univ _)) $$ H
  iintro H
  iapply (run_pure (F := F))
  isplitr
  · ipureintro
    intro y
    rw [← hf]
    show (src.view.read (Elt F) f) _ = (src.view.read (Elt F) f) _
    refine congrArg (src.view.read (Elt F) f) (funext fun a => ?_)
    match a with
    | ⟨0, _⟩ =>
      refine Fin.ext ?_
      show 0 + 1 * (![r0, r1, r2, r3] r y).toNat = 4 * h.val + r.val
      rw [hr]; omega
    | ⟨1, _⟩ =>
      refine Fin.ext ?_
      have hlt : (w.1 y).toNat < 4096 := pick_inb w.2 r 1 y
      show 0 + 1 * (w.1 y).toNat = (pv (ix1 (lane t u (y 0)))).toNat % 4096
      rw [← hw, Nat.mod_eq_of_lt hlt]; omega
  · iexists f
    isplitr; · ipureintro; exact hf
    iexact H

/-! ## Storing a group -/

/-- The elements of an output buffer written once the groups before group `u` of row `r` of trip `t`
    are. -/
def Done (t r u : Nat) (x : S4x4096.Idx) : Prop :=
  (x 1).val < 128 * t ∨ (x 1).val < 128 * (t + 1) ∧ ((x 0).val < r ∨ (x 0).val = r ∧ (x 1).val < 128 * t + 16 * u)

theorem run_put {dst : Memref sig .scVector .vmem S4x4096 .f32} {w : S4x4096.Idx → F .f32} (t : Fin k0_t2_loop.trips) (r : Fin 4) (u : Fin 8)
    {v : Vec F S16 .f32} (hv : ∀ y, v y = w (ix2 r (lane t u (y 0)))) :
    (Holds d i dst (fun f => ∀ x, Done t r u x → f x = w x) : sProp 𝕄)
      ⊢ Runs d i (put i dst t v r u) fun _ => Holds d i dst (fun f => ∀ x, Done t r (u + 1) x → f x = w x) := by
  unfold put
  iintro H
  iapply (step run_load) $$ H
  iintro %_ ⟨%_, H⟩
  iapply (run_store ?_) $$ H
  intro g g' hg hin hout x hx
  have hs : (Rect.unit (s := S4x4096) (putOff t r u) S1x16.size (putOff_inb t r u)).shape = S1x16 := rfl
  by_cases hm : (x 0).val = r.val ∧ 128 * t.val + 16 * u.val ≤ (x 1).val ∧ (x 1).val < 128 * t.val + 16 * u.val + 16
  · obtain ⟨h0, h1, h2⟩ := hm
    have hx' : x = (Rect.unit (s := S4x4096) (putOff t r u) S1x16.size (putOff_inb t r u)).emb
        (ix2 (0 : Fin 1) (⟨(x 1).val - (128 * t.val + 16 * u.val), by omega⟩ : Fin 16)) := by
      refine funext fun a => Fin.ext ?_
      rw [Rect.emb_apply]
      match a with
      | ⟨0, _⟩ =>
        show (x 0).val = putOff t r u 0 + 1 * 0
        rw [putOff_eq]; exact h0
      | ⟨1, _⟩ =>
        show (x 1).val = putOff t r u 1 + 1 * ((x 1).val - (128 * t.val + 16 * u.val))
        rw [putOff_eq]
        show (x 1).val = 128 * t.val + 16 * u.val + 1 * ((x 1).val - (128 * t.val + 16 * u.val))
        omega
    have e := hin (ix2 (0 : Fin 1) (⟨(x 1).val - (128 * t.val + 16 * u.val), by omega⟩ : Fin 16))
    rw [← hx'] at e
    rw [e]
    refine (ValueIdx.shapeCast_a_1a_apply v _ 0 _).trans ((hv _).trans (congrArg w ?_))
    refine funext fun a => Fin.ext ?_
    match a with
    | ⟨0, _⟩ => exact h0.symm
    | ⟨1, _⟩ =>
      show 128 * t.val + 16 * u.val + ((x 1).val - (128 * t.val + 16 * u.val)) = (x 1).val
      omega
  · rw [hout x ?_]
    · refine hg x ?_
      unfold Done at hx ⊢
      omega
    · intro hx'
      rw [← Rect.map_emb_univ] at hx'
      obtain ⟨y, -, rfl⟩ := Finset.mem_map.mp hx'
      refine hm ?_
      have h0 : (y 0).val < 1 := (y 0).isLt
      have h1 : (y 1).val < 16 := (y 1).isLt
      have e0 : putOff t r u 0 = r.val := congrFun (putOff_eq t r u) 0
      have e1 : putOff t r u 1 = 128 * t.val + 16 * u.val := congrFun (putOff_eq t r u) 1
      rw [Rect.emb_apply, Rect.emb_apply]
      show putOff t r u 0 + 1 * (y 0).val = r.val ∧ _ ≤ putOff t r u 1 + 1 * (y 1).val ∧ putOff t r u 1 + 1 * (y 1).val < _
      omega

/-! ## A trip of the shuffle's loop -/

/-- Row `r`'s eight groups, read. -/
theorem run_picks {src : Memref sig .scVector .vmem S8x4096 .f32} {g : S8x4096.Idx → F .f32} {pv : S4096.Idx → BitVec 32} {h : Fin 2}
    {r0 r1 r2 r3 : IVec S16 32} (hr : ∀ (k : Fin 4) y, (![r0, r1, r2, r3] k y).toNat = 4 * h.val + k.val)
    {t : Fin k0_t2_loop.trips} {ws : Fin 8 → Σ' v : Vec F S16 .i32, k0_chk1 r0 r1 r2 r3 v}
    (hw : ∀ u y, (ws u).1 y = pv (ix1 (lane t u (y 0)))) (r : Fin 4) :
    (Holds d i src (· = g) : sProp 𝕄)
      ⊢ Runs d i (inTurn 8 fun u => pick i src r0 r1 r2 r3 (ws u) r) fun vs =>
          iprop(⌜∀ u y, vs u y = shuffled h g pv (ix2 r (lane t u (y 0)))⌝ ∗ Holds d i src (· = g)) :=
  run_inTurn (fun u (v : Vec F S16 .f32) => ∀ y, v y = shuffled h g pv (ix2 r (lane t u (y 0)))) (fun _ => Holds d i src (· = g))
    fun u => run_pick hr (hw u) r

/-- Row `r`'s eight groups, stored. -/
theorem run_puts {dst : Memref sig .scVector .vmem S4x4096 .f32} {w : S4x4096.Idx → F .f32} (t : Fin k0_t2_loop.trips) (r : Fin 4)
    {vs : Fin 8 → Vec F S16 .f32} (hv : ∀ u y, vs u y = w (ix2 r (lane t u (y 0)))) :
    (Holds d i dst (fun f => ∀ x, Done t r 0 x → f x = w x) : sProp 𝕄)
      ⊢ Runs d i (inTurn 8 fun u => put i dst t (vs u) r u) fun _ => Holds d i dst (fun f => ∀ x, Done t (r + 1) 0 x → f x = w x) := by
  refine BIBase.Entails.trans (run_inTurn (fun _ _ => True) (fun u => Holds d i dst (fun f => ∀ x, Done t r u x → f x = w x))
    fun u => (run_put t r u (hv u)).trans (wp_mono frame _ _ fun _ => ?_)) (wp_mono frame _ _ fun _ => ?_)
  · iintro H
    isplitr; · ipureintro; trivial
    iexact H
  · iintro ⟨%_, H⟩
    have e : ∀ x, Done t (r + 1) 0 x → Done t r 8 x := fun x hx => by unfold Done at hx ⊢; omega
    iapply (Holds_mono d i fun f hf x hx => hf x (e x hx)) $$ H

variable {perm : Memref sig .scVector .vmem S4096 .i32} {src : Memref sig .scVector .vmem S8x4096 .f32} {dst : Memref sig .scVector .vmem S4x4096 .f32}
  {g : S8x4096.Idx → F .f32} {pv : S4096.Idx → BitVec 32} {h : Fin 2} {r0 r1 r2 r3 : IVec S16 32}

theorem run_trip (hpv : ∀ j, (pv j).toNat < 4096) (hr : ∀ (k : Fin 4) y, (![r0, r1, r2, r3] k y).toNat = 4 * h.val + k.val)
    (t : Fin k0_t2_loop.trips) :
    (iprop(Holds d i perm (· = pv) ∗ Holds d i src (· = g)
        ∗ Holds d i dst (fun f => ∀ x, Done t 0 0 x → f x = shuffled h g pv x)) : sProp 𝕄)
      ⊢ Runs d i (shuffle i perm src dst r0 r1 r2 r3 t) fun _ =>
        iprop(Holds d i perm (· = pv) ∗ Holds d i src (· = g)
          ∗ Holds d i dst (fun f => ∀ x, Done (t.val + 1) 0 0 x → f x = shuffled h g pv x)) := by
  unfold shuffle
  iintro ⟨HP, HS, HD⟩
  have hr8 : ∀ (k : Fin 4) y, (![r0, r1, r2, r3] k y).toNat < 8 := fun k y => by rw [hr]; omega
  iapply (step (run_inTurn (fun u w => ∀ y, w.1 y = pv (ix1 (lane t u (y 0)))) (fun _ => Holds d i perm (· = pv))
    fun u => run_words hpv hr8 t u)) $$ HP
  iintro %ws ⟨%hw, HP⟩
  iapply (step (run_inTurn (fun r (vs : Fin 8 → Vec F S16 .f32) => ∀ u y, vs u y = shuffled h g pv (ix2 r (lane t u (y 0))))
    (fun _ => Holds d i src (· = g)) fun r => run_picks hr hw r)) $$ HS
  iintro %vs ⟨%hv, HS⟩
  iapply (step (run_inTurn (fun _ _ => True) (fun r => Holds d i dst (fun f => ∀ x, Done t r 0 x → f x = shuffled h g pv x))
    fun r => (run_puts t r (hv r)).trans (wp_mono frame _ _ fun _ => ?_))) $$ HD
  · iintro H
    isplitr; · ipureintro; trivial
    iexact H
  iintro %_ ⟨%_, HD⟩
  iapply (run_pure (F := F))
  isplitl [HP]; · iexact HP
  isplitl [HS]; · iexact HS
  have e : ∀ x, Done (t.val + 1) 0 0 x → Done t 4 0 x := fun x hx => by
    have : (x 0).val < 4 := (x 0).isLt
    unfold Done at hx ⊢
    omega
  iapply (Holds_mono d i fun f hf x hx => hf x (e x hx)) $$ HD

/-- The loop: the output buffer holds the shuffled half block. -/
theorem run_shuffle (hpv : ∀ j, (pv j).toNat < 4096) (hr : ∀ (k : Fin 4) y, (![r0, r1, r2, r3] k y).toNat = 4 * h.val + k.val)
    {hok : k0_t2_loop.OK} :
    (iprop(Holds d i perm (· = pv) ∗ Holds d i src (· = g) ∗ Holds d i dst fun _ => True) : sProp 𝕄)
      ⊢ Runs d i (Scf.Loop.for k0_t2_loop hok ⟨⟩ fun t _ => shuffle i perm src dst r0 r1 r2 r3 t) fun _ =>
        iprop(Holds d i perm (· = pv) ∗ Holds d i src (· = g) ∗ Holds d i dst (· = shuffled h g pv)) := by
  refine BIBase.Entails.trans ?_ ((run_for (fun k => iprop(Holds d i perm (· = pv) ∗ Holds d i src (· = g)
    ∗ Holds d i dst (fun f => ∀ x, Done k 0 0 x → f x = shuffled h g pv x))) fun t => run_trip hpv hr t).trans
      (wp_mono frame _ _ fun _ => ?_))
  · iintro ⟨HP, HS, HD⟩
    isplitl [HP]; · iexact HP
    isplitl [HS]; · iexact HS
    have e : ∀ x, ¬ Done 0 0 0 x := fun x hx => by unfold Done at hx; omega
    iapply (Holds_mono d i fun f _ x hx => (e x hx).elim) $$ HD
  · iintro ⟨HP, HS, HD⟩
    isplitl [HP]; · iexact HP
    isplitl [HS]; · iexact HS
    have e : ∀ x, Done k0_t2_loop.trips 0 0 x := fun x => by
      have : (x 1).val < 4096 := (x 1).isLt
      rw [trips_eq]
      unfold Done
      omega
    iapply (Holds_mono d i fun f hf => funext fun x => hf x (e x)) $$ HD

end Cert.KernelIdeal.Tile
-- ==== Proof.Copies.lean ====
/-
  The copies of a tile: eight rows of `x` into a staging buffer, four rows of an output buffer into
  `o`, the column list into the tile's memory, and the waits for them.
-/
module

public import proofs.«01_k».proof.Proof.Setup

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)

variable {F : FTy → Type} [FloatOps F] {d : Dev nD} {i : grid0.Coords}

local notation "𝕄" => MT nD τ sig (HIx 1) (Elt F) ℕ UU ℕ

/-! ## The three arrays -/

abbrev xW : Memref sig .scVector .hbm S8192x4096 .f32 := Memref.whole main_arg0_scv
abbrev pW : Memref sig .scVector .hbm S4096 .i32 := Memref.whole main_arg1_scv
abbrev oW : Memref sig .scVector .hbm S8192x4096 .f32 := Memref.whole main_v0_scv

abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0

/-! ## Copies under way -/

/-- A copy under way on semaphore `sem`, which hands over `D` when waited for. -/
abbrev Fl (d : Dev nD) (i : grid0.Coords) (sem : DmaSem sig) (N : Nat) (D : sProp 𝕄) : sProp 𝕄 :=
  Transfers.Flight EC (vt d i) (.dma sem) (none : HIx 1) N D

/-- What the tile owes, the waits it made being on its own copies. -/
def Owe (d : Dev nD) (i : grid0.Coords) (O : CellTallies nD τ sig (HIx 1)) (W : Waits sig (HIx 1)) : sProp 𝕄 :=
  iprop(∃ W', ⌜∀ p ∈ W', p ∈ W ∨ p.2 = none⌝ ∗ owes (vt d i) O W')

/-- What a copy is given to keep, it hands over too. -/
theorem Flight_frame {c : Thread nD τ} {sm : SemLoc sig} {ι : HIx 1} {N : Nat} {D X : sProp 𝕄} :
    iprop(Transfers.Flight EC c sm ι N D ∗ X) ⊢ Transfers.Flight EC c sm ι N iprop(D ∗ X) := by
  unfold Transfers.Flight
  iintro ⟨⟨⟨%R, HR, %hc, %hp⟩, Hcred⟩, HX⟩
  isplitr [Hcred]
  · iexists iprop(R ∗ X)
    isplitl [HR HX]
    · isplitl [HR]; · iexact HR
      iexact HX
    isplit
    · ipureintro
      intro K
      refine BIBase.Entails.trans ?_ (hc K)
      iintro ⟨⟨HR, HX⟩, HK⟩
      isplitl [HR]; · iexact HR
      iintro ⟨Hv, HD⟩
      iapply HK
      isplitl [Hv]; · iexact Hv
      isplitl [HD]; · iexact HD
      iexact HX
    · ipureintro
      intro K
      refine BIBase.Entails.trans ?_ (hp K)
      iintro ⟨⟨HR, HX⟩, HK⟩
      isplitl [HR]; · iexact HR
      iintro HR
      iapply HK
      isplitl [HR]; · iexact HR
      iexact HX
  · iexact Hcred

/-- A wait for a copy. -/
theorem run_wait {sp sp' : Space} {s s' : Shape} {e e' : EltTy} {sem : DmaSem sig} {a : Memref sig .scVector sp' s' e'} {b : Memref sig .scVector sp s e}
    {ha : a.view.WordExact} {hb : b.view.WordExact} {N : Nat} (hN : b.view.dmaCredit = N) {D : sProp 𝕄}
    {O : CellTallies nD τ sig (HIx 1)} {W : Waits sig (HIx 1)} :
    iprop(Fl d i sem N D ∗ Owe d i O W ∗ Transfers.MayWaits (vt d i) (none : HIx 1) O)
      ⊢ Runs d i (Prog.lift (.waitDma2 sem a b ha hb)) fun _ => iprop(D ∗ semVal (vt d i, SemLoc.dma sem) 0 ∗ Owe d i O W) := by
  unfold Owe
  iintro ⟨HF, ⟨%W', %hW, HO⟩, HM⟩
  ihave Hm := (Transfers.MayWaits.elim (.dma sem)) $$ HM
  iapply (Transfers.wp_waitLocalO EC 𝒱₀ (vt d i) none (k := .ret) (none : HIx 1) hN) $$ [HF HO Hm]
  · isplitl [HF]; · iexact HF
    isplitl [HO]; · iexact HO
    iexact Hm
  iintro ⟨HD, Hv, HO⟩
  iapply (run_pure (F := F))
  isplitl [HD]; · iexact HD
  isplitl [Hv]; · iexact Hv
  iexists _
  isplitr
  rotate_left
  · iexact HO
  · ipureintro
    intro p hp
    rcases Finset.mem_insert.mp hp with rfl | hp
    · exact .inr rfl
    · exact hW p hp

/-! ## Eight rows of `x` -/

theorem run_fetch {off : Fin 2 → Nat} {hoff : ∀ a, off a + S8x4096.size a ≤ S8192x4096.size a} {row : Nat} (hrow : off = ![row, 0])
    {buf : Memref sig .scVector .vmem S8x4096 .f32} {hbuf : buf.IsWhole} {sem : DmaSem sig} {q : PosShare TreeShare} {X : S8192x4096.Idx → F .f32} :
    (iprop((xLoc d ↦{q} X) ∗ Holds d i buf (fun _ => True) ∗ semVal (vt d i, SemLoc.dma sem) 0) : sProp 𝕄)
      ⊢ Runs d i (fetch i xW off hoff buf hbuf sem) fun _ =>
        Fl d i sem buf.view.dmaCredit iprop(Holds d i buf (· = block X row) ∗ (xLoc d ↦{q} X)) := by
  subst hrow
  have hrow : row + 8 ≤ 8192 := hoff 0
  unfold fetch Holds
  iintro ⟨HX, ⟨%f, %_, HB⟩, HS⟩
  ihave HX' := (pointsTo_split_subset (Finset.subset_univ ((xW.slice (Rect.unit (s := S8192x4096) ![row, 0] S8x4096.size hoff) (fun _ => rfl)).view.set))) $$ HX
  icases HX' with ⟨HX, HR⟩
  iapply (Transfers.wp_dmaLocal EC 𝒱₀ (vt d i) none (k := .ret) (src := xW.slice (Rect.unit (s := S8192x4096) ![row, 0] S8x4096.size hoff) (fun _ => rfl))
    (dst := buf) (sm := .dma sem) (Sd := Finset.univ) (none : HIx 1) buf.view.dmaCredit rfl (View.dmaCredit_pos _ h_S8x4096) (Finset.subset_univ _)) $$ [HX HB HS]
  · isplitl [HX]; · iexact HX
    isplitl [HB]; · iexact HB
    iexact HS
  iintro HF
  iapply (run_pure (F := F))
  ihave HF := Flight_frame $$ [HF HR]
  · isplitl [HF]; · iexact HF
    iexact HR
  iapply (Transfers.Flight_mono ?_) $$ HF
  iintro ⟨⟨HB, HX⟩, HR⟩
  isplitl [HB]
  · iexists _
    isplitr
    rotate_left
    · iexact HB
    · ipureintro
      rw [View.read_write_univ]
      funext y
      show X ((Rect.unit (s := S8192x4096) ![row, 0] S8x4096.size hoff).emb y) = X (ix2 _ (y 1))
      have h0 : (y 0).val < 8 := (y 0).isLt
      refine congrArg X (funext fun a => Fin.ext ?_)
      rw [Rect.emb_apply]
      match a with
      | ⟨0, _⟩ =>
        show row + 1 * (y 0).val = (row + (y 0).val) % 8192
        omega
      | ⟨1, _⟩ =>
        show 0 + 1 * (y 1).val = (y 1).val
        omega
  · iapply (pointsTo_split_subset (Finset.subset_univ ((xW.slice (Rect.unit (s := S8192x4096) ![row, 0] S8x4096.size hoff) (fun _ => rfl)).view.set))).2
    isplitl [HX]; · iexact HX
    iexact HR

/-! ## Four rows of `o` -/

/-- The first of the tile's 256 rows. -/
def base (i : grid0.Coords) : Nat := 512 * (i 1).val + 256 * (i 0).val

/-- The elements of `o` in the tile's rows whose place among eight is in the upper (`h = 0`) or lower
    (`h = 1`) four. -/
def half (i : grid0.Coords) (h : Fin 2) : Finset S8192x4096.Idx :=
  Finset.univ.filter fun x => base i ≤ (x 0).val ∧ (x 0).val < base i + 256 ∧ (x 0).val / 4 % 2 = h.val

theorem mem_half {h : Fin 2} {x : S8192x4096.Idx} :
    x ∈ half i h ↔ base i ≤ (x 0).val ∧ (x 0).val < base i + 256 ∧ (x 0).val / 4 % 2 = h.val := by
  simp [half]

/-- Half `h` of the tile's rows, of which the first `n` blocks hold the result. -/
def Out (d : Dev nD) (i : grid0.Coords) (X : S8192x4096.Idx → F .f32) (pv : S4096.Idx → BitVec 32) (h : Fin 2) (n : Nat) : sProp 𝕄 :=
  iprop(∃ g : S8192x4096.Idx → F .f32, ⌜∀ x ∈ half i h, (x 0).val < base i + 8 * n → g x = result X pv x⌝ ∗ (oLoc d ↦[half i h]{fullShare} g))

/-- What a wait for four rows of `o` counts. -/
abbrev oCredit : Nat := (oW.slice (Rect.unit (s := S8192x4096) ![0, 0] S4x4096.size (by decide)) (fun _ => rfl)).view.dmaCredit

abbrev rows4 (off : Fin 2 → Nat) (hoff : ∀ a, off a + S4x4096.size a ≤ S8192x4096.size a) : Rect S8192x4096 :=
  Rect.unit (s := S8192x4096) off S4x4096.size hoff

theorem mem_rows4 {b : Nat} {hoff : ∀ a, (![b, 0] : Fin 2 → Nat) a + S4x4096.size a ≤ S8192x4096.size a} {x : S8192x4096.Idx} (h : x ∈ (rows4 ![b, 0] hoff).set) :
    b ≤ (x 0).val ∧ (x 0).val < b + 4 := by
  rw [← Rect.map_emb_univ] at h
  obtain ⟨y, -, rfl⟩ := Finset.mem_map.mp h
  have h0 : (y 0).val < 4 := (y 0).isLt
  rw [Rect.emb_apply]
  show b ≤ b + 1 * (y 0).val ∧ b + 1 * (y 0).val < b + 4
  omega

theorem rows4_emb {b : Nat} {hoff : ∀ a, (![b, 0] : Fin 2 → Nat) a + S4x4096.size a ≤ S8192x4096.size a} {x : S8192x4096.Idx}
    (h0 : b ≤ (x 0).val) (h1 : (x 0).val < b + 4) :
    (rows4 ![b, 0] hoff).emb (ix2 (⟨(x 0).val - b, by omega⟩ : Fin 4) (x 1)) = x := by
  refine funext fun a => Fin.ext ?_
  rw [Rect.emb_apply]
  match a with
  | ⟨0, _⟩ =>
    show b + 1 * ((x 0).val - b) = (x 0).val
    omega
  | ⟨1, _⟩ =>
    show 0 + 1 * (x 1).val = (x 1).val
    omega

/-- Reading the whole of `o` is reading its elements. -/
theorem read_oW (g : S8192x4096.Idx → F .f32) (x : S8192x4096.Idx) :
    (oW : Memref sig .scVector .hbm S8192x4096 .f32).view.read (Elt F) g x = g x := rfl

/-- What four rows of `o` hold once written, -/
theorem written_in {b : Nat} {hoff : ∀ a, (![b, 0] : Fin 2 → Nat) a + S4x4096.size a ≤ S8192x4096.size a} (g : S8192x4096.Idx → F .f32)
    (w : S4x4096.Idx → F .f32) {x : S8192x4096.Idx} (h0 : b ≤ (x 0).val) (h1 : (x 0).val < b + 4) :
    (oW.slice (rows4 ![b, 0] hoff) (fun _ => rfl)).view.write (Elt F) g w Finset.univ x = w (ix2 (⟨(x 0).val - b, by omega⟩ : Fin 4) (x 1)) := by
  have e := View.read_slice_write_emb (v := (oW : Memref sig .scVector .hbm S8192x4096 .f32).view) (Val := Elt F) (rows4 ![b, 0] hoff) g w
    (Finset.mem_univ (ix2 (⟨(x 0).val - b, by omega⟩ : Fin 4) (x 1)))
  refine Eq.trans ?_ e
  refine Eq.trans ?_ (read_oW _ _).symm
  refine congrArg _ (rows4_emb h0 h1).symm

/-- and what the other rows do. -/
theorem written_out {b : Nat} {hoff : ∀ a, (![b, 0] : Fin 2 → Nat) a + S4x4096.size a ≤ S8192x4096.size a} (g : S8192x4096.Idx → F .f32)
    (w : S4x4096.Idx → F .f32) {x : S8192x4096.Idx} (h : ¬ (b ≤ (x 0).val ∧ (x 0).val < b + 4)) :
    (oW.slice (rows4 ![b, 0] hoff) (fun _ => rfl)).view.write (Elt F) g w Finset.univ x = g x := by
  have e := View.read_slice_write_of_not_mem (v := (oW : Memref sig .scVector .hbm S8192x4096 .f32).view) (Val := Elt F) (rows4 ![b, 0] hoff) g w
    Finset.univ (y := x) fun hx' => h (mem_rows4 (by rwa [Rect.map_emb_univ] at hx'))
  exact (read_oW _ x).symm.trans (e.trans (read_oW g x))

/-- Row `k` of the half block is row `4 h + k` of the block, shuffled. -/
theorem shuffled_eq {h : Fin 2} {b : Nat} {X : S8192x4096.Idx → F .f32} {pv : S4096.Idx → BitVec 32} {x : S8192x4096.Idx}
    (h0 : b + 4 * h.val ≤ (x 0).val) (h1 : (x 0).val < b + 4 * h.val + 4) :
    shuffled h (block X b) pv (ix2 (⟨(x 0).val - (b + 4 * h.val), by omega⟩ : Fin 4) (x 1)) = result X pv x := by
  refine congrArg X (funext fun a => Fin.ext ?_)
  match a with
  | ⟨0, _⟩ =>
    show (b + (4 * h.val + ((x 0).val - (b + 4 * h.val)))) % 8192 = (x 0).val
    have : (x 0).val < 8192 := (x 0).isLt
    omega
  | ⟨1, _⟩ => rfl

theorem run_send {off : Fin 2 → Nat} {hoff : ∀ a, off a + S4x4096.size a ≤ S8192x4096.size a} {n : Nat} {h : Fin 2} (hn : n < 32)
    (hrow : off = ![base i + 8 * n + 4 * h.val, 0])
    {buf : Memref sig .scVector .vmem S4x4096 .f32} {hbuf : buf.IsWhole} {sem : DmaSem sig} {X : S8192x4096.Idx → F .f32} {pv : S4096.Idx → BitVec 32} :
    (iprop(Holds d i buf (· = shuffled h (block X (base i + 8 * n)) pv) ∗ Out d i X pv h n ∗ semVal (vt d i, SemLoc.dma sem) 0) : sProp 𝕄)
      ⊢ Runs d i (send i oW off hoff buf hbuf sem) fun _ =>
        Fl d i sem oCredit iprop(Out d i X pv h (n + 1) ∗ Holds d i buf fun _ => True) := by
  subst hrow
  have hrow : base i + 8 * n + 4 * h.val + 4 ≤ 8192 := hoff 0
  have hb : base i % 8 = 0 := by unfold base; omega
  have hh : h.val < 2 := h.isLt
  have hset : (oW.slice (rows4 _ hoff) (fun _ => rfl)).view.set ⊆ half i h := by
    intro x hx
    have := mem_rows4 (show x ∈ (rows4 _ hoff).set from (View.set_slice_whole (b := main_v0_scv) (rows4 _ hoff)) ▸ hx)
    rw [mem_half]; omega
  unfold send Holds Out
  iintro ⟨⟨%f, %hf, HB⟩, ⟨%g, %hg, HO⟩, HS⟩
  iapply (Transfers.wp_dmaLocal EC 𝒱₀ (vt d i) none (k := .ret) (src := buf)
    (dst := oW.slice (rows4 _ hoff) (fun _ => rfl)) (sm := .dma sem) (Sd := half i h) (none : HIx 1) oCredit rfl (View.dmaCredit_pos _ (by decide)) hset) $$ [HB HO HS]
  · isplitl [HB]
    · rw [hbuf.set_eq_univ]
      iexact HB
    isplitl [HO]; · iexact HO
    iexact HS
  iintro HF
  iapply (run_pure (F := F))
  iapply (Transfers.Flight_mono ?_) $$ HF
  rw [hbuf.set_eq_univ]
  iintro ⟨HO, HB⟩
  isplitl [HO]
  · iexists _
    isplitr
    rotate_left
    · iexact HO
    · ipureintro
      intro x hx hlt
      rw [mem_half] at hx
      by_cases hm : base i + 8 * n + 4 * h.val ≤ (x 0).val ∧ (x 0).val < base i + 8 * n + 4 * h.val + 4
      · exact (written_in g _ hm.1 hm.2).trans ((congrFun hf _).trans (shuffled_eq hm.1 hm.2))
      · exact (written_out g _ hm).trans (hg x (mem_half.mpr hx) (by omega))
  · iexists f
    isplitr; · ipureintro; trivial
    iexact HB

/-! ## The column list -/

theorem run_list {pbuf : Memref sig .scVector .vmem S4096 .i32} {hbuf : pbuf.IsWhole} {hp : pW.IsWhole} {sem : DmaSem sig} {q : PosShare TreeShare}
    {pv : S4096.Idx → BitVec 32} :
    (iprop((pLoc d ↦{q} pv) ∗ Holds d i pbuf (fun _ => True) ∗ semVal (vt d i, SemLoc.dma sem) 0) : sProp 𝕄)
      ⊢ Runs d i (Prog.lift (.enqueueDma pW (.here pbuf) (.dma sem) hp.wordExact hbuf.wordExact ⟨Or.inl rfl, trivial⟩)) fun _ =>
        Fl d i sem pbuf.view.dmaCredit iprop(Holds d i pbuf (· = pv) ∗ (pLoc d ↦{q} pv)) := by
  unfold Holds
  iintro ⟨HX, ⟨%f, %_, HB⟩, HS⟩
  iapply (Transfers.wp_dmaLocal EC 𝒱₀ (vt d i) none (k := .ret) (src := pW)
    (dst := pbuf) (sm := .dma sem) (Sd := Finset.univ) (none : HIx 1) pbuf.view.dmaCredit rfl (View.dmaCredit_pos _ (by decide)) (Finset.subset_univ _)) $$ [HX HB HS]
  · isplitl [HX]
    · rw [hp.set_eq_univ]
      iexact HX
    isplitl [HB]; · iexact HB
    iexact HS
  iintro HF
  iapply (run_pure (F := F))
  iapply (Transfers.Flight_mono ?_) $$ HF
  rw [hp.set_eq_univ]
  iintro ⟨HB, HX⟩
  isplitl [HB]
  · iexists _
    isplitr
    rotate_left
    · iexact HB
    · ipureintro
      rw [View.read_write_univ]
      rfl
  · iexact HX

end Cert.KernelIdeal.Tile
-- ==== Proof.Body.lean ====
/-
  A tile's run: two staging buffers filled in turn from `x`, two output buffers shuffled into and
  copied out to the tile's rows of `o`.
-/
module

public import proofs.«01_k».proof.Proof.Shuffle
public import proofs.«01_k».proof.Proof.Copies

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)

variable {F : FTy → Type} [FloatOps F] {d : Dev nD} {i : grid0.Coords}

local notation "𝕄" => MT nD τ sig (HIx 1) (Elt F) ℕ UU ℕ

/-! ## Conditionals, rows -/

/-- A conditional whose two ways end alike. -/
theorem step_if {β : Type} {c : Prop} [Decidable c] {p : c → TP F i PUnit} {P R : sProp 𝕄}
    (ht : ∀ h, P ⊢ Runs d i (p h) fun _ => R) (hf : ¬ c → P ⊢ R) {k : PUnit → TP F i β} {Q : β → sProp 𝕄} :
    P ⊢ iprop((R -∗ Runs d i (k ⟨⟩) Q) -∗ Runs d i (if h : c then p h >>= k else k ⟨⟩) Q) := by
  iintro HP Hk
  by_cases h : c
  · rw [dif_pos h]
    iapply (step (ht h)) $$ HP
    iintro %_ HR
    iapply Hk $$ HR
  · rw [dif_neg h]
    ihave HR := (hf h) $$ HP
    iapply Hk $$ HR

theorem cond1_iff : ∀ t : Fin k0_t1_loop.trips, k0_cond1 t = 1#1 ↔ t.val ≠ 0 := by decide
theorem cond2_iff : ∀ t : Fin k0_t1_loop.trips, k0_cond2 t = 1#1 ↔ t.val ≠ 0 := by decide
theorem cond3_iff : ∀ t : Fin k0_t1_loop.trips, k0_cond3 t = 1#1 ↔ t.val + 1 < 16 := by decide
theorem trips1_eq : k0_t1_loop.trips = 16 := by decide

theorem row_eq {off : Fin 2 → Nat} {a b : Nat} (h : off = ![a, 0]) (e : a = b) : off = ![b, 0] := e ▸ h

/-- The four rows of a half, as the program lists them. -/
theorem rows_lo : ∀ (k : Fin 4) (y : S16.Idx), (![broadcast S16 0#32, broadcast S16 1#32, broadcast S16 2#32, broadcast S16 3#32] k y : BitVec 32).toNat
    = 4 * (0 : Fin 2).val + k.val := fun k _ => by
  match k with
  | 0 => rfl
  | 1 => rfl
  | 2 => rfl
  | 3 => rfl

theorem rows_hi : ∀ (k : Fin 4) (y : S16.Idx), (![broadcast S16 4#32, broadcast S16 5#32, broadcast S16 6#32, broadcast S16 7#32] k y : BitVec 32).toNat
    = 4 * (1 : Fin 2).val + k.val := fun k _ => by
  match k with
  | 0 => rfl
  | 1 => rfl
  | 2 => rfl
  | 3 => rfl

/-! ## An output buffer's states -/

variable {arg5 : Memref sig .scVector .vmem S4096 .i32} {arg6 arg7 : Memref sig .scVector .vmem S8x4096 .f32}
  {arg8 arg9 : Memref sig .scVector .vmem S4x4096 .f32} {harg5 : arg5.IsWhole} {harg6 : arg6.IsWhole} {harg7 : arg7.IsWhole} {harg8 : arg8.IsWhole} {harg9 : arg9.IsWhole}
  {arg10 arg11 arg12 arg13 v14_r0 : DmaSems sig S_}
  {X : S8192x4096.Idx → F .f32} {pv : S4096.Idx → BitVec 32} {qL qR qp : PosShare TreeShare}
  {O : CellTallies nD τ sig (HIx 1)} {W : Waits sig (HIx 1)}

/-- Free to be written: `n` blocks of half `h` are out. -/
def Ready (d : Dev nD) (i : grid0.Coords) (X : S8192x4096.Idx → F .f32) (pv : S4096.Idx → BitVec 32) (h : Fin 2)
    (buf : Memref sig .scVector .vmem S4x4096 .f32) (sem : DmaSem sig) (n : Nat) : sProp 𝕄 :=
  iprop(Holds d i buf (fun _ => True) ∗ Out d i X pv h n ∗ semVal (vt d i, SemLoc.dma sem) 0)

/-- Being copied out, as the `n`-th block of half `h`. -/
abbrev Busy (d : Dev nD) (i : grid0.Coords) (X : S8192x4096.Idx → F .f32) (pv : S4096.Idx → BitVec 32) (h : Fin 2)
    (buf : Memref sig .scVector .vmem S4x4096 .f32) (sem : DmaSem sig) (n : Nat) : sProp 𝕄 :=
  Fl d i sem oCredit iprop(Out d i X pv h n ∗ Holds d i buf fun _ => True)

/-- At the head of a trip: free in the first, being copied out in the later ones. -/
def Slot (d : Dev nD) (i : grid0.Coords) (X : S8192x4096.Idx → F .f32) (pv : S4096.Idx → BitVec 32) (h : Fin 2)
    (buf : Memref sig .scVector .vmem S4x4096 .f32) (sem : DmaSem sig) (n : Nat) : sProp 𝕄 :=
  if n = 0 then Ready d i X pv h buf sem n else Busy d i X pv h buf sem n

abbrev MW (d : Dev nD) (i : grid0.Coords) (O : CellTallies nD τ sig (HIx 1)) : sProp 𝕄 := Transfers.MayWaits (vt d i) (none : HIx 1) O

theorem run_sendWait {off : Fin 2 → Nat} {hoff : ∀ a, off a + S4x4096.size a ≤ S8192x4096.size a} {buf : Memref sig .scVector .vmem S4x4096 .f32}
    {hbuf : buf.IsWhole} {sem : DmaSem sig} {h : Fin 2} {n : Nat} :
    iprop(Busy d i X pv h buf sem n ∗ Owe d i O W ∗ MW d i O)
      ⊢ Runs d i (sendWait i oW off hoff buf hbuf sem) fun _ => iprop(Ready d i X pv h buf sem n ∗ Owe d i O W) := by
  unfold sendWait Ready
  refine (run_wait (N := oCredit) (a := buf) (b := oW.slice (Rect.unit (s := S8192x4096) off S4x4096.size hoff) (fun _ => rfl)) rfl).trans (wp_mono frame _ _ fun _ => ?_)
  iintro ⟨⟨HO, HB⟩, HS, HW⟩
  isplitr [HW]
  · isplitl [HB]; · iexact HB
    isplitl [HO]; · iexact HO
    iexact HS
  · iexact HW

/-- The wait at the head of a trip, made in the later ones. -/
theorem wait_slot {c : Prop} {off : Fin 2 → Nat} {hoff : c → ∀ a, off a + S4x4096.size a ≤ S8192x4096.size a} {buf : Memref sig .scVector .vmem S4x4096 .f32}
    {hbuf : buf.IsWhole} {sem : DmaSem sig} {h : Fin 2} {n : Nat} (hc : c → n ≠ 0) :
    ∀ hh : c, iprop(Slot d i X pv h buf sem n ∗ Owe d i O W ∗ MW d i O)
      ⊢ Runs d i (sendWait i oW off (hoff hh) buf hbuf sem) fun _ => iprop(Ready d i X pv h buf sem n ∗ Owe d i O W) := by
  intro hh
  unfold Slot
  rw [if_neg (hc hh)]
  exact run_sendWait

theorem skip_slot {c : Prop} {buf : Memref sig .scVector .vmem S4x4096 .f32} {sem : DmaSem sig} {h : Fin 2} {n : Nat} (hc : ¬ c → n = 0) :
    ¬ c → (iprop(Slot d i X pv h buf sem n ∗ Owe d i O W ∗ MW d i O) : sProp 𝕄) ⊢ iprop(Ready d i X pv h buf sem n ∗ Owe d i O W) := by
  intro hh
  unfold Slot
  rw [if_pos (hc hh)]
  iintro ⟨HR, HW, _⟩
  isplitl [HR]; · iexact HR
  iexact HW

/-- A shuffle, its rows ready to go. -/
theorem run_fill (hpv : ∀ j, (pv j).toNat < 4096) {src : Memref sig .scVector .vmem S8x4096 .f32} {buf : Memref sig .scVector .vmem S4x4096 .f32}
    {sem : DmaSem sig} {h : Fin 2} {n : Nat} {g : S8x4096.Idx → F .f32} {r0 r1 r2 r3 : IVec S16 32}
    (hr : ∀ (k : Fin 4) y, (![r0, r1, r2, r3] k y).toNat = 4 * h.val + k.val) {hok : k0_t2_loop.OK} :
    (iprop(Holds d i arg5 (· = pv) ∗ Holds d i src (· = g) ∗ Ready d i X pv h buf sem n) : sProp 𝕄)
      ⊢ Runs d i (Scf.Loop.for k0_t2_loop hok ⟨⟩ fun t _ => shuffle i arg5 src buf r0 r1 r2 r3 t) fun _ =>
        iprop(Holds d i arg5 (· = pv) ∗ Holds d i src (· = g) ∗ Holds d i buf (· = shuffled h g pv) ∗ Out d i X pv h n ∗ semVal (vt d i, SemLoc.dma sem) 0) := by
  unfold Ready
  iintro ⟨HP, HS, HB, HO, HV⟩
  have e : ∀ p : TP F i PUnit, p = (p >>= pure) := fun p => (bind_pure p).symm
  rw [e (Scf.Loop.for _ _ _ _)]
  iapply (step (run_shuffle hpv hr)) $$ [HP HS HB]
  · isplitl [HP]; · iexact HP
    isplitl [HS]; · iexact HS
    iexact HB
  iintro %_ ⟨HP, HS, HB⟩
  iapply (run_pure (F := F))
  isplitl [HP]; · iexact HP
  isplitl [HS]; · iexact HS
  isplitl [HB]; · iexact HB
  isplitl [HO]; · iexact HO
  iexact HV

/-! ## A trip -/

/-- The first staging buffer at the head of trip `k`: its block on the way, or after the last trip
    free. -/
def In0 (d : Dev nD) (i : grid0.Coords) (X : S8192x4096.Idx → F .f32) (q : PosShare TreeShare) (buf : Memref sig .scVector .vmem S8x4096 .f32) (sem : DmaSem sig)
    (k : Nat) : sProp 𝕄 :=
  if k < 16 then Fl d i sem buf.view.dmaCredit iprop(Holds d i buf (· = block X (base i + 8 * (2 * k))) ∗ (xLoc d ↦{q} X))
  else iprop((xLoc d ↦{q} X) ∗ Holds d i buf (fun _ => True) ∗ semVal (vt d i, SemLoc.dma sem) 0)

theorem run_tripA (hpv : ∀ j, (pv j).toNat < 4096) (t : Fin k0_t1_loop.trips) :
    (iprop(In0 d i X qL arg6 arg10.sem t ∗ ((xLoc d ↦{qR} X) ∗ Holds d i arg7 (fun _ => True) ∗ semVal (vt d i, SemLoc.dma arg11.sem) 0)
        ∗ Slot d i X pv 0 arg8 arg12.sem (2 * t) ∗ Slot d i X pv 1 arg9 arg13.sem (2 * t) ∗ Holds d i arg5 (· = pv) ∗ Owe d i O W ∗ MW d i O) : sProp 𝕄)
      ⊢ Runs d i (tripA i xW oW arg5 arg6 harg6 arg7 harg7 arg8 harg8 arg9 harg9 arg10 arg11 arg12 arg13 t) fun r =>
        iprop(⌜r.2.1 = broadcast S16 4#32 ∧ r.2.2 = 5#32⌝
          ∗ (Holds d i arg6 (· = block X (base i + 8 * (2 * t))) ∗ (xLoc d ↦{qL} X) ∗ semVal (vt d i, SemLoc.dma arg10.sem) 0)
          ∗ Fl d i arg11.sem arg7.view.dmaCredit iprop(Holds d i arg7 (· = block X (base i + 8 * (2 * t + 1))) ∗ (xLoc d ↦{qR} X))
          ∗ Busy d i X pv 0 arg8 arg12.sem (2 * t + 1) ∗ Ready d i X pv 1 arg9 arg13.sem (2 * t) ∗ Holds d i arg5 (· = pv) ∗ Owe d i O W) := by
  have ht : t.val < 16 := t.isLt.trans_eq trips1_eq
  unfold tripA In0
  rw [if_pos ht]
  iintro ⟨HF0, ⟨HX, HB1, HS1⟩, HA, HB, HP, HW, #HM⟩
  iapply (step (run_fetch (row := base i + 8 * (2 * t + 1)) (row_eq (k0_off2_eq i t) (by unfold base; omega)))) $$ [HX HB1 HS1]
  · isplitl [HX]; · iexact HX
    isplitl [HB1]; · iexact HB1
    iexact HS1
  iintro %_ HF1
  iapply (step (run_wait rfl)) $$ [HF0 HW]
  · isplitl [HF0]; · iexact HF0
    isplitl [HW]; · iexact HW
    iexact HM
  iintro %_ ⟨⟨H0, HX⟩, HS0, HW⟩
  iapply (step_if (wait_slot (n := 2 * t.val) fun h => by have := (cond1_iff t).mp h; omega) (skip_slot fun h => by
    have := (not_congr (cond1_iff t)).mp h; omega)) $$ [HA HW]
  · isplitl [HA]; · iexact HA
    isplitl [HW]; · iexact HW
    iexact HM
  iintro ⟨HA, HW⟩
  iapply (step (run_fill (n := 2 * t.val) (h := 0) hpv rows_lo)) $$ [HP H0 HA]
  · isplitl [HP]; · iexact HP
    isplitl [H0]; · iexact H0
    iexact HA
  iintro %_ ⟨HP, H0, HA⟩
  iapply (step (run_send (n := 2 * t.val) (by omega) (row_eq (k0_off10_eq i t) (by unfold base; omega)))) $$ HA
  iintro %_ HA
  iapply (step_if (wait_slot (n := 2 * t.val) fun h => by have := (cond2_iff t).mp h; omega) (skip_slot fun h => by
    have := (not_congr (cond2_iff t)).mp h; omega)) $$ [HB HW]
  · isplitl [HB]; · iexact HB
    isplitl [HW]; · iexact HW
    iexact HM
  iintro ⟨HB, HW⟩
  iapply (run_pure (F := F))
  isplitr; · ipureintro; exact ⟨rfl, rfl⟩
  isplitl [H0 HX HS0]
  · isplitl [H0]; · iexact H0
    isplitl [HX]; · iexact HX
    iexact HS0
  isplitl [HF1]; · iexact HF1
  isplitl [HA]; · iexact HA
  isplitl [HB]; · iexact HB
  isplitl [HP]; · iexact HP
  iexact HW

theorem run_tripB (hpv : ∀ j, (pv j).toNat < 4096) (t : Fin k0_t1_loop.trips) :
    (iprop((Holds d i arg6 (· = block X (base i + 8 * (2 * t))) ∗ (xLoc d ↦{qL} X) ∗ semVal (vt d i, SemLoc.dma arg10.sem) 0)
          ∗ Fl d i arg11.sem arg7.view.dmaCredit iprop(Holds d i arg7 (· = block X (base i + 8 * (2 * t + 1))) ∗ (xLoc d ↦{qR} X))
          ∗ Busy d i X pv 0 arg8 arg12.sem (2 * t + 1) ∗ Ready d i X pv 1 arg9 arg13.sem (2 * t) ∗ Holds d i arg5 (· = pv) ∗ Owe d i O W ∗ MW d i O) : sProp 𝕄)
      ⊢ Runs d i (tripB i xW oW arg5 arg6 harg6 arg7 harg7 arg8 harg8 arg9 harg9 arg10 arg11 arg12 arg13 t (broadcast S16 4#32) 5#32) fun _ =>
        iprop(In0 d i X qL arg6 arg10.sem (t + 1)
          ∗ (Holds d i arg7 (· = block X (base i + 8 * (2 * t + 1))) ∗ (xLoc d ↦{qR} X) ∗ semVal (vt d i, SemLoc.dma arg11.sem) 0)
          ∗ (Holds d i arg8 (· = shuffled 0 (block X (base i + 8 * (2 * t + 1))) pv) ∗ Out d i X pv 0 (2 * t + 1) ∗ semVal (vt d i, SemLoc.dma arg12.sem) 0)
          ∗ Busy d i X pv 1 arg9 arg13.sem (2 * t + 1) ∗ Holds d i arg5 (· = pv) ∗ Owe d i O W) := by
  have ht : t.val < 16 := t.isLt.trans_eq trips1_eq
  have more : ∀ h : k0_cond3 t = 1#1, (iprop(Holds d i arg6 (· = block X (base i + 8 * (2 * t))) ∗ (xLoc d ↦{qL} X) ∗ semVal (vt d i, SemLoc.dma arg10.sem) 0) : sProp 𝕄)
      ⊢ Runs d i (fetch i xW (k0_off18 i t) (k0_off18_inb i t h) arg6 harg6 arg10.sem) fun _ => In0 d i X qL arg6 arg10.sem (t + 1) := by
    intro h
    unfold In0
    rw [if_pos ((cond3_iff t).mp h)]
    refine BIBase.Entails.trans ?_ (run_fetch (row := base i + 8 * (2 * (t + 1))) (row_eq (k0_off18_eq i t) (by unfold base; omega)))
    iintro ⟨H0, HX, HS⟩
    isplitl [HX]; · iexact HX
    isplitl [H0]
    · ihave H0 := (Holds_mono d i fun _ _ => trivial) $$ H0
      iexact H0
    iexact HS
  have last : ¬ k0_cond3 t = 1#1 → (iprop(Holds d i arg6 (· = block X (base i + 8 * (2 * t))) ∗ (xLoc d ↦{qL} X) ∗ semVal (vt d i, SemLoc.dma arg10.sem) 0) : sProp 𝕄)
      ⊢ In0 d i X qL arg6 arg10.sem (t + 1) := by
    intro h
    unfold In0
    rw [if_neg ((not_congr (cond3_iff t)).mp h)]
    iintro ⟨H0, HX, HS⟩
    isplitl [HX]; · iexact HX
    isplitl [H0]
    · ihave H0 := (Holds_mono d i fun _ _ => trivial) $$ H0
      iexact H0
    iexact HS
  unfold tripB
  iintro ⟨⟨H0, HX, HS0⟩, HF1, HA, HB, HP, HW, #HM⟩
  iapply (step (run_fill (n := 2 * t.val) (h := 1) hpv rows_hi)) $$ [HP H0 HB]
  · isplitl [HP]; · iexact HP
    isplitl [H0]; · iexact H0
    iexact HB
  iintro %_ ⟨HP, H0, HB⟩
  iapply (step (run_send (n := 2 * t.val) (by omega) (row_eq (k0_off17_eq i t) (by unfold base; show _ = _ + 4 * 1; omega)))) $$ HB
  iintro %_ HB
  iapply (step_if more last) $$ [H0 HX HS0]
  · isplitl [H0]; · iexact H0
    isplitl [HX]; · iexact HX
    iexact HS0
  iintro HF0
  iapply (step (run_wait rfl)) $$ [HF1 HW]
  · isplitl [HF1]; · iexact HF1
    isplitl [HW]; · iexact HW
    iexact HM
  iintro %_ ⟨⟨H1, HX⟩, HS1, HW⟩
  iapply (step (run_sendWait (h := 0) (n := 2 * t.val + 1))) $$ [HA HW]
  · isplitl [HA]; · iexact HA
    isplitl [HW]; · iexact HW
    iexact HM
  iintro %_ ⟨HA, HW⟩
  iapply (step (run_fill (n := 2 * t.val + 1) (h := 0) hpv rows_lo)) $$ [HP H1 HA]
  · isplitl [HP]; · iexact HP
    isplitl [H1]; · iexact H1
    iexact HA
  iintro %_ ⟨HP, H1, HA⟩
  iapply (run_pure (F := F))
  isplitl [HF0]; · iexact HF0
  isplitl [H1 HX HS1]
  · isplitl [H1]; · iexact H1
    isplitl [HX]; · iexact HX
    iexact HS1
  isplitl [HA]; · iexact HA
  isplitl [HB]; · iexact HB
  isplitl [HP]; · iexact HP
  iexact HW

theorem run_tripC (hpv : ∀ j, (pv j).toNat < 4096) (t : Fin k0_t1_loop.trips) :
    (iprop((Holds d i arg7 (· = block X (base i + 8 * (2 * t + 1))) ∗ (xLoc d ↦{qR} X) ∗ semVal (vt d i, SemLoc.dma arg11.sem) 0)
          ∗ (Holds d i arg8 (· = shuffled 0 (block X (base i + 8 * (2 * t + 1))) pv) ∗ Out d i X pv 0 (2 * t + 1) ∗ semVal (vt d i, SemLoc.dma arg12.sem) 0)
          ∗ Busy d i X pv 1 arg9 arg13.sem (2 * t + 1) ∗ Holds d i arg5 (· = pv) ∗ Owe d i O W ∗ MW d i O) : sProp 𝕄)
      ⊢ Runs d i (tripC i xW oW arg5 arg6 harg6 arg7 harg7 arg8 harg8 arg9 harg9 arg10 arg11 arg12 arg13 t) fun _ =>
        iprop(((xLoc d ↦{qR} X) ∗ Holds d i arg7 (fun _ => True) ∗ semVal (vt d i, SemLoc.dma arg11.sem) 0)
          ∗ Busy d i X pv 0 arg8 arg12.sem (2 * (t + 1)) ∗ Busy d i X pv 1 arg9 arg13.sem (2 * (t + 1)) ∗ Holds d i arg5 (· = pv) ∗ Owe d i O W) := by
  have ht : t.val < 16 := t.isLt.trans_eq trips1_eq
  unfold tripC
  iintro ⟨⟨H1, HX, HS1⟩, HA, HB, HP, HW, #HM⟩
  iapply (step (run_send (n := 2 * t.val + 1) (by omega) (row_eq (k0_off26_eq i t) (by unfold base; show _ = _ + 4 * 0; omega)))) $$ HA
  iintro %_ HA
  iapply (step (run_sendWait (h := 1) (n := 2 * t.val + 1))) $$ [HB HW]
  · isplitl [HB]; · iexact HB
    isplitl [HW]; · iexact HW
    iexact HM
  iintro %_ ⟨HB, HW⟩
  iapply (step (run_fill (n := 2 * t.val + 1) (h := 1) hpv rows_hi)) $$ [HP H1 HB]
  · isplitl [HP]; · iexact HP
    isplitl [H1]; · iexact H1
    iexact HB
  iintro %_ ⟨HP, H1, HB⟩
  iapply (step (run_send (n := 2 * t.val + 1) (by omega) (row_eq (k0_off33_eq i t) (by unfold base; show _ = _ + 4 * 1; omega)))) $$ HB
  iintro %_ HB
  iapply (run_pure (F := F))
  isplitl [H1 HX HS1]
  · isplitl [HX]; · iexact HX
    isplitl [H1]
    · ihave H1 := (Holds_mono d i fun _ _ => trivial) $$ H1
      iexact H1
    iexact HS1
  isplitl [HA]; · iexact HA
  isplitl [HB]; · iexact HB
  isplitl [HP]; · iexact HP
  iexact HW

/-- What holds at the head of trip `k`: `2 * k` blocks of each half are out, or on their way. -/
def Inv (d : Dev nD) (i : grid0.Coords) (X : S8192x4096.Idx → F .f32) (pv : S4096.Idx → BitVec 32) (qL qR : PosShare TreeShare)
    (O : CellTallies nD τ sig (HIx 1)) (W : Waits sig (HIx 1)) (arg5 : Memref sig .scVector .vmem S4096 .i32)
    (arg6 arg7 : Memref sig .scVector .vmem S8x4096 .f32) (arg8 arg9 : Memref sig .scVector .vmem S4x4096 .f32) (arg10 arg11 arg12 arg13 : DmaSems sig S_)
    (k : Nat) : sProp 𝕄 :=
  iprop(In0 d i X qL arg6 arg10.sem k ∗ ((xLoc d ↦{qR} X) ∗ Holds d i arg7 (fun _ => True) ∗ semVal (vt d i, SemLoc.dma arg11.sem) 0)
    ∗ Slot d i X pv 0 arg8 arg12.sem (2 * k) ∗ Slot d i X pv 1 arg9 arg13.sem (2 * k) ∗ Holds d i arg5 (· = pv) ∗ Owe d i O W ∗ MW d i O)

theorem run_trip_inv (hpv : ∀ j, (pv j).toNat < 4096) (t : Fin k0_t1_loop.trips) :
    (Inv d i X pv qL qR O W arg5 arg6 arg7 arg8 arg9 arg10 arg11 arg12 arg13 t : sProp 𝕄)
      ⊢ Runs d i (trip i xW oW arg5 arg6 harg6 arg7 harg7 arg8 harg8 arg9 harg9 arg10 arg11 arg12 arg13 t) fun _ =>
        Inv d i X pv qL qR O W arg5 arg6 arg7 arg8 arg9 arg10 arg11 arg12 arg13 (t + 1) := by
  unfold trip Inv
  rw [show ∀ h buf sem, Slot d i X pv h buf sem (2 * (t.val + 1)) = Busy d i X pv h buf sem (2 * (t.val + 1)) from
    fun _ _ _ => if_neg (by omega), show ∀ h buf sem, Slot d i X pv h buf sem (2 * (t.val + 1)) = Busy d i X pv h buf sem (2 * (t.val + 1)) from
    fun _ _ _ => if_neg (by omega)]
  iintro ⟨HF0, H1, HA, HB, HP, HW, #HM⟩
  iapply (step (run_tripA hpv t)) $$ [HF0 H1 HA HB HP HW]
  · isplitl [HF0]; · iexact HF0
    isplitl [H1]; · iexact H1
    isplitl [HA]; · iexact HA
    isplitl [HB]; · iexact HB
    isplitl [HP]; · iexact HP
    isplitl [HW]; · iexact HW
    iexact HM
  iintro %r ⟨%hr, H0, HF1, HA, HB, HP, HW⟩
  obtain ⟨_, v40, c5⟩ := r
  obtain ⟨h4, h5⟩ := hr
  dsimp only at h4 h5
  subst h4 h5
  dsimp only
  iapply (step (run_tripB hpv t)) $$ [H0 HF1 HA HB HP HW]
  · isplitl [H0]; · iexact H0
    isplitl [HF1]; · iexact HF1
    isplitl [HA]; · iexact HA
    isplitl [HB]; · iexact HB
    isplitl [HP]; · iexact HP
    isplitl [HW]; · iexact HW
    iexact HM
  iintro %_ ⟨HF0, H1, HA, HB, HP, HW⟩
  rw [← bind_pure (tripC i _ _ _ _ _ _ _ _ _ _ _ _ _ _ _ t)]
  iapply (step (run_tripC hpv t)) $$ [H1 HA HB HP HW]
  · isplitl [H1]; · iexact H1
    isplitl [HA]; · iexact HA
    isplitl [HB]; · iexact HB
    isplitl [HP]; · iexact HP
    isplitl [HW]; · iexact HW
    iexact HM
  iintro %_ ⟨H1, HA, HB, HP, HW⟩
  iapply (run_pure (F := F))
  isplitl [HF0]; · iexact HF0
  isplitl [H1]; · iexact H1
  isplitl [HA]; · iexact HA
  isplitl [HB]; · iexact HB
  isplitl [HP]; · iexact HP
  isplitl [HW]; · iexact HW
  iexact HM

/-! ## The tile -/

/-- A tile's run: with shares of `x` and of the list, and its own rows of `o`, it leaves those rows shuffled. -/
theorem run_tile (hpv : ∀ j, (pv j).toNat < 4096) {hp : pW.IsWhole} :
    (iprop((xLoc d ↦{qL} X) ∗ (xLoc d ↦{qR} X) ∗ (pLoc d ↦{qp} pv) ∗ Out d i X pv 0 0 ∗ Out d i X pv 1 0
        ∗ Holds d i arg5 (fun _ => True) ∗ Holds d i arg6 (fun _ => True) ∗ Holds d i arg7 (fun _ => True) ∗ Holds d i arg8 (fun _ => True) ∗ Holds d i arg9 (fun _ => True)
        ∗ semVal (vt d i, SemLoc.dma arg10.sem) 0 ∗ semVal (vt d i, SemLoc.dma arg11.sem) 0 ∗ semVal (vt d i, SemLoc.dma arg12.sem) 0
        ∗ semVal (vt d i, SemLoc.dma arg13.sem) 0 ∗ semVal (vt d i, SemLoc.dma v14_r0.sem) 0 ∗ Owe d i O W ∗ MW d i O) : sProp 𝕄)
      ⊢ Runs d i (tile i xW pW hp oW arg5 harg5 arg6 harg6 arg7 harg7 arg8 harg8 arg9 harg9 arg10 arg11 arg12 arg13 v14_r0) fun _ =>
        iprop((xLoc d ↦{qL} X) ∗ (xLoc d ↦{qR} X) ∗ (pLoc d ↦{qp} pv) ∗ Out d i X pv 0 32 ∗ Out d i X pv 1 32
          ∗ Holds d i arg5 (fun _ => True) ∗ Holds d i arg6 (fun _ => True) ∗ Holds d i arg7 (fun _ => True) ∗ Holds d i arg8 (fun _ => True) ∗ Holds d i arg9 (fun _ => True)
          ∗ semVal (vt d i, SemLoc.dma arg10.sem) 0 ∗ semVal (vt d i, SemLoc.dma arg11.sem) 0 ∗ semVal (vt d i, SemLoc.dma arg12.sem) 0
          ∗ semVal (vt d i, SemLoc.dma arg13.sem) 0 ∗ semVal (vt d i, SemLoc.dma v14_r0.sem) 0 ∗ Owe d i O W) := by
  have hloop := (run_for (hok := k0_t1_ok) (Inv d i X pv qL qR O W arg5 arg6 arg7 arg8 arg9 arg10 arg11 arg12 arg13)
    (body := fun t _ => trip i xW oW arg5 arg6 harg6 arg7 harg7 arg8 harg8 arg9 harg9 arg10 arg11 arg12 arg13 t) (run_trip_inv hpv)).trans
    (wp_mono frame _ _ fun _ => Entails.of_eq (congrArg (Inv d i X pv qL qR O W arg5 arg6 arg7 arg8 arg9 arg10 arg11 arg12 arg13) trips1_eq))
  unfold tile
  iintro ⟨HX, HX', HL, HO0, HO1, H5, H6, H7, H8, H9, S10, S11, S12, S13, S14, HW, #HM⟩
  iapply (step (run_list (hp := hp) (hbuf := harg5))) $$ [HL H5 S14]
  · isplitl [HL]; · iexact HL
    isplitl [H5]; · iexact H5
    iexact S14
  iintro %_ HF
  iapply (step (run_wait rfl)) $$ [HF HW]
  · isplitl [HF]; · iexact HF
    isplitl [HW]; · iexact HW
    iexact HM
  iintro %_ ⟨⟨H5, HL⟩, S14, HW⟩
  iapply (step (run_fetch (row := base i + 8 * (2 * 0)) (row_eq (k0_off1_eq i) (by unfold base; omega)))) $$ [HX H6 S10]
  · isplitl [HX]; · iexact HX
    isplitl [H6]; · iexact H6
    iexact S10
  iintro %_ HF0
  iapply (step hloop) $$ [HF0 HX' H7 S11 HO0 H8 S12 HO1 H9 S13 H5 HW]
  · unfold Inv In0 Slot Ready
    rw [if_pos (by decide), if_pos rfl, if_pos rfl]
    isplitl [HF0]; · iexact HF0
    isplitl [HX' H7 S11]
    · isplitl [HX']; · iexact HX'
      isplitl [H7]; · iexact H7
      iexact S11
    isplitl [HO0 H8 S12]
    · isplitl [H8]; · iexact H8
      isplitl [HO0]; · iexact HO0
      iexact S12
    isplitl [HO1 H9 S13]
    · isplitl [H9]; · iexact H9
      isplitl [HO1]; · iexact HO1
      iexact S13
    isplitl [H5]; · iexact H5
    isplitl [HW]; · iexact HW
    iexact HM
  unfold Inv In0 Slot
  rw [if_neg (by decide), if_neg (by decide), if_neg (by decide)]
  iintro %_ ⟨⟨HX, H6, S10⟩, ⟨HX', H7, S11⟩, HA, HB, H5, HW, -⟩
  iapply (step (run_sendWait (h := 0) (n := 32))) $$ [HA HW]
  · isplitl [HA]; · iexact HA
    isplitl [HW]; · iexact HW
    iexact HM
  unfold Ready
  iintro %_ ⟨⟨H8, HO0, S12⟩, HW⟩
  iapply (step (run_sendWait (h := 1) (n := 32))) $$ [HB HW]
  · isplitl [HB]; · iexact HB
    isplitl [HW]; · iexact HW
    iexact HM
  unfold Ready
  iintro %_ ⟨⟨H9, HO1, S13⟩, HW⟩
  iapply (run_pure (F := F))
  isplitl [HX]; · iexact HX
  isplitl [HX']; · iexact HX'
  isplitl [HL]; · iexact HL
  isplitl [HO0]; · iexact HO0
  isplitl [HO1]; · iexact HO1
  isplitl [H5]
  · ihave H5 := (Holds_mono d i fun _ _ => trivial) $$ H5
    iexact H5
  isplitl [H6]; · iexact H6
  isplitl [H7]; · iexact H7
  isplitl [H8]; · iexact H8
  isplitl [H9]; · iexact H9
  isplitl [S10]; · iexact S10
  isplitl [S11]; · iexact S11
  isplitl [S12]; · iexact S12
  isplitl [S13]; · iexact S13
  isplitl [S14]; · iexact S14
  iexact HW

end Cert.KernelIdeal.Tile
-- ==== Proof.Deal.lean ====
/-
  The three arrays dealt to the tiles and taken back: shares of `x` and of the list for each, and for
  each its own rows of `o`.
-/
module

public import proofs.«01_k».proof.Proof.Copies

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)

variable {F : FTy → Type} {d : Dev nD}

local notation "𝕄" => MT nD τ sig (HIx 1) (Elt F) ℕ UU ℕ

/-- The grid position of tile `s` of SparseCore `c`. -/
def pos (c : Fin 2) (s : Fin 16) : grid0.Coords :=
  fun | 0 => c | 1 => s | ⟨_ + 2, h⟩ => absurd h (Nat.not_lt.2 (Nat.le_add_left _ _))

/-- One for every tile. -/
abbrev tiles (Φ : Fin 2 → Fin 16 → sProp 𝕄) : sProp 𝕄 := bigSep Finset.univ fun c : Fin 2 => bigSep Finset.univ fun s : Fin 16 => Φ c s

theorem tiles_sep (Φ Ψ : Fin 2 → Fin 16 → sProp 𝕄) : (tiles fun c s => iprop(Φ c s ∗ Ψ c s)) = iprop(tiles Φ ∗ tiles Ψ) := by
  unfold tiles
  rw [bigSep_congr fun c _ => bigSep_sep' Finset.univ (Φ c) (Ψ c), bigSep_sep']

theorem tiles_mono {Φ Ψ : Fin 2 → Fin 16 → sProp 𝕄} (h : ∀ c s, Φ c s ⊢ Ψ c s) : tiles Φ ⊢ tiles Ψ :=
  bigSep_mono fun c _ => bigSep_mono fun s _ => h c s

/-- The share a tile reads at. -/
def share (c : Fin 2) (s : Fin 16) : PosShare TreeShare :=
  Transfers.dealOf (Transfers.dealOf fullShare Finset.univ c) Finset.univ s

theorem tiles_share {ℓ : Loc nD τ sig} (f : Buf (Elt F) ℓ) : (ℓ ↦{fullShare} f : sProp 𝕄) = tiles fun c s => ℓ ↦{share c s} f := by
  unfold tiles share
  rw [Transfers.pointsTo_deal (ℓ := ℓ) (Finset.univ : Finset (Fin 2)) ⟨0, Finset.mem_univ _⟩ fullShare]
  exact bigSep_congr fun c _ => Transfers.pointsTo_deal (ℓ := ℓ) (Finset.univ : Finset (Fin 16)) ⟨0, Finset.mem_univ _⟩ _

/-! ## The rows of `o` -/

theorem base_pos (c : Fin 2) (s : Fin 16) : base (pos c s) = 512 * s.val + 256 * c.val := rfl

abbrev part (p : Fin 2 × Fin 16 × Fin 2) : Finset S8192x4096.Idx := half (pos p.1 p.2.1) p.2.2

theorem part_disjoint : ∀ p ∈ (Finset.univ : Finset (Fin 2 × Fin 16 × Fin 2)), ∀ p' ∈ (Finset.univ : Finset (Fin 2 × Fin 16 × Fin 2)), p ≠ p' → Disjoint (part p) (part p') := by
  rintro ⟨c, s, h⟩ - ⟨c', s', h'⟩ - hne
  refine Finset.disjoint_left.mpr fun x hx hx' => hne ?_
  obtain ⟨a, b, e⟩ := mem_half.mp hx
  obtain ⟨a', b', e'⟩ := mem_half.mp hx'
  rw [base_pos] at a b a' b'
  dsimp only at a b e a' b' e'
  have := c.isLt; have := c'.isLt
  have hc : c = c' := Fin.ext (by omega)
  have hs : s = s' := Fin.ext (by omega)
  have hh : h = h' := Fin.ext (by omega)
  rw [hc, hs, hh]

theorem part_cover : (Finset.univ : Finset (Fin 2 × Fin 16 × Fin 2)).biUnion part = Finset.univ := by
  refine Finset.eq_univ_iff_forall.mpr fun x => Finset.mem_biUnion.mpr ?_
  have h0 : (x 0).val < 8192 := (x 0).isLt
  refine ⟨(⟨(x 0).val / 256 % 2, by omega⟩, ⟨(x 0).val / 512, by omega⟩, ⟨(x 0).val / 4 % 2, by omega⟩), Finset.mem_univ _, mem_half.mpr ?_⟩
  rw [base_pos]
  dsimp only
  omega

theorem tiles_rows (f : S8192x4096.Idx → F .f32) :
    (oLoc d ↦{fullShare} f : sProp 𝕄) = tiles fun c s => iprop((oLoc d ↦[half (pos c s) 0]{fullShare} f) ∗ (oLoc d ↦[half (pos c s) 1]{fullShare} f)) := by
  have e := pointsTo_biUnion (Val := Elt F) (Lvl := ℕ) (Name := ℕ) (U := UU) (Ix := HIx 1) (ℓ := oLoc d) (q := fullShare) (f := f) Finset.univ part part_disjoint
  rw [part_cover] at e
  refine e.trans ?_
  rw [← Finset.univ_product_univ, SparseCore.bigSep_product]
  refine bigSep_congr fun c _ => ?_
  rw [← Finset.univ_product_univ, SparseCore.bigSep_product]
  refine bigSep_congr fun s _ => ?_
  rw [show (Finset.univ : Finset (Fin 2)) = {0, 1} from rfl, SparseCore.bigSep_insert' (by decide), bigSep_singleton]

/-! ## What a tile takes and brings back -/

variable (d) (X : S8192x4096.Idx → F .f32) (pv : S4096.Idx → BitVec 32)

/-- A tile's shares of `x` and of the list, and its rows of `o`, of which `n` blocks hold the result. -/
def Lot (n : Nat) (c : Fin 2) (s : Fin 16) : sProp 𝕄 :=
  iprop((xLoc d ↦{(share c s).left} X) ∗ (xLoc d ↦{(share c s).right} X) ∗ (pLoc d ↦{share c s} pv)
    ∗ Out d (pos c s) X pv 0 n ∗ Out d (pos c s) X pv 1 n)

theorem Out_start (i : grid0.Coords) (h : Fin 2) (f : S8192x4096.Idx → F .f32) : (oLoc d ↦[half i h]{fullShare} f : sProp 𝕄) ⊢ Out d i X pv h 0 := by
  unfold Out
  iintro H
  iexists f
  isplitr
  · ipureintro
    intro x hx hlt
    have := (mem_half.mp hx).1
    omega
  · iexact H

theorem Out_end (i : grid0.Coords) (h : Fin 2) : (Out d i X pv h 32 : sProp 𝕄) ⊢ (oLoc d ↦[half i h]{fullShare} result X pv) := by
  unfold Out
  iintro ⟨%g, %hg, H⟩
  ihave H := (Entails.of_eq (pointsTo_congr (ℓ := oLoc d) (I := half i h) (q := fullShare) (f := g) (g := result X pv) fun x hx => hg x hx (by
    have := (mem_half.mp hx).2.1
    omega))) $$ H
  iexact H

theorem deal (f : S8192x4096.Idx → F .f32) :
    (iprop((xLoc d ↦{fullShare} X) ∗ (pLoc d ↦{fullShare} pv) ∗ (oLoc d ↦{fullShare} f)) : sProp 𝕄) ⊢ tiles (Lot d X pv 0) := by
  rw [tiles_share (ℓ := xLoc d) X, tiles_share (ℓ := pLoc d) pv, tiles_rows (d := d) f, ← tiles_sep, ← tiles_sep]
  refine tiles_mono fun c s => ?_
  unfold Lot
  iintro ⟨HX, HP, H0, H1⟩
  ihave HX := (pointsTo_share (PosShare.mem_left_op_right (share c s))).1 $$ HX
  icases HX with ⟨HL, HR⟩
  isplitl [HL]; · iexact HL
  isplitl [HR]; · iexact HR
  isplitl [HP]; · iexact HP
  isplitl [H0]
  · iapply (Out_start d X pv (pos c s) 0 f); iexact H0
  · iapply (Out_start d X pv (pos c s) 1 f); iexact H1

theorem gather :
    (tiles (Lot d X pv 32) : sProp 𝕄) ⊢ iprop((xLoc d ↦{fullShare} X) ∗ (pLoc d ↦{fullShare} pv) ∗ (oLoc d ↦{fullShare} result X pv)) := by
  rw [tiles_share (ℓ := xLoc d) X, tiles_share (ℓ := pLoc d) pv, tiles_rows (d := d) (result X pv), ← tiles_sep, ← tiles_sep]
  refine tiles_mono fun c s => ?_
  unfold Lot
  iintro ⟨HL, HR, HP, H0, H1⟩
  isplitl [HL HR]
  · iapply (pointsTo_share (PosShare.mem_left_op_right (share c s))).2
    isplitl [HL]; · iexact HL
    iexact HR
  isplitl [HP]; · iexact HP
  isplitl [H0]
  · iapply (Out_end d X pv (pos c s) 0); iexact H0
  · iapply (Out_end d X pv (pos c s) 1); iexact H1

instance Out_storable (i : grid0.Coords) (h : Fin 2) (n : Nat) : BI.Storable (upEmb : UEmb _ 𝕄) (Out d i X pv h n) := by
  unfold Out; infer_instance

instance Lot_storable (n : Nat) (c : Fin 2) (s : Fin 16) : BI.Storable (upEmb : UEmb _ 𝕄) (Lot d X pv n c s) := by
  unfold Lot; infer_instance

end Cert.KernelIdeal.Tile
-- ==== Proof.TileParts.lean ====
/-
  The kernel's printed body is the program `Tile.tile`: each window of it by unfolding, and the
  whole from its windows.
-/
module

public import proofs.«01_k».proof.Proof.Tile

@[expose] public section

noncomputable section

namespace Cert.KernelIdeal.Tile

open Idealize.ShloMosaic Idealize.SL.Sem Cert.KernelIdeal Cert.KernelIdeal.Gen

variable {F : FTy → Type} [FloatOps F]

/-- Programs that start alike and go on alike are alike. -/
theorem bind_congr2 {i : grid0.Coords} {α β : Type} {p q : TP F i α} {f g : α → TP F i β} (h : p = q) (h' : ∀ a, f a = g a) : p >>= f = q >>= g := by
  obtain rfl := h
  obtain rfl := funext h'
  rfl

/-- A program that goes on alike after its conditional. -/
theorem jp_congr {i : grid0.Coords} {c : Prop} [Decidable c] {p q : c → TP F i PUnit} {f g : PUnit → TP F i PUnit} (h : ∀ h, p h = q h) (h' : ∀ a, f a = g a) :
    (if h : c then p h >>= f else f ⟨⟩) = (if h : c then q h >>= g else g ⟨⟩) := by
  obtain rfl := funext h
  obtain rfl := funext h'
  rfl

/-- Loops of like trips. -/
theorem for_congr {i : grid0.Coords} {w : Nat} {l : Scf.Loop w} {ok : l.OK} {f g : Fin l.trips → PUnit → TP F i PUnit} (h : ∀ t, f t ⟨⟩ = g t ⟨⟩) :
    Scf.Loop.for l ok ⟨⟩ f = Scf.Loop.for l ok ⟨⟩ g := by
  obtain rfl : f = g := funext fun t => funext fun _ => h t
  rfl

set_option maxRecDepth 65536 in
set_option maxHeartbeats 4000000 in
theorem part21_eq (i : grid0.Coords) (arg2 : Memref sig .scVector .hbm S8192x4096 .f32) (harg2 : arg2.IsWhole) (arg3 : Memref sig .scVector .hbm S4096 .i32) (harg3 : arg3.IsWhole) (arg4 : Memref sig .scVector .hbm S8192x4096 .f32) (harg4 : arg4.IsWhole) (arg5 : Memref sig .scVector .vmem S4096 .i32) (harg5 : arg5.IsWhole) (arg6 : Memref sig .scVector .vmem S8x4096 .f32) (harg6 : arg6.IsWhole) (arg7 : Memref sig .scVector .vmem S8x4096 .f32) (harg7 : arg7.IsWhole) (arg8 : Memref sig .scVector .vmem S4x4096 .f32) (harg8 : arg8.IsWhole) (arg9 : Memref sig .scVector .vmem S4x4096 .f32) (harg9 : arg9.IsWhole) (arg10 arg11 arg12 arg13 v14_r0 : DmaSems sig S_)
    (v2 : BitVec 32) (t : Fin k0_t1_loop.trips) :
    k0_part21 (F := F) i arg2 harg2 arg3 harg3 arg4 harg4 arg5 harg5 arg6 harg6 arg7 harg7 arg8 harg8 arg9 harg9 arg10 arg11 arg12 arg13 v14_r0 v2 0#32 1#32 t
      = tripA i arg2 arg4 arg5 arg6 harg6 arg7 harg7 arg8 harg8 arg9 harg9 arg10 arg11 arg12 arg13 t := rfl

set_option maxRecDepth 65536 in
set_option maxHeartbeats 4000000 in
theorem part22_eq (i : grid0.Coords) (arg2 : Memref sig .scVector .hbm S8192x4096 .f32) (harg2 : arg2.IsWhole) (arg3 : Memref sig .scVector .hbm S4096 .i32) (harg3 : arg3.IsWhole) (arg4 : Memref sig .scVector .hbm S8192x4096 .f32) (harg4 : arg4.IsWhole) (arg5 : Memref sig .scVector .vmem S4096 .i32) (harg5 : arg5.IsWhole) (arg6 : Memref sig .scVector .vmem S8x4096 .f32) (harg6 : arg6.IsWhole) (arg7 : Memref sig .scVector .vmem S8x4096 .f32) (harg7 : arg7.IsWhole) (arg8 : Memref sig .scVector .vmem S4x4096 .f32) (harg8 : arg8.IsWhole) (arg9 : Memref sig .scVector .vmem S4x4096 .f32) (harg9 : arg9.IsWhole) (arg10 arg11 arg12 arg13 v14_r0 : DmaSems sig S_)
    (v2 v15 : BitVec 32) (v40 : IVec S16 32) (c5 : BitVec 32) (t : Fin k0_t1_loop.trips) :
    k0_part22 (F := F) i arg2 harg2 arg3 harg3 arg4 harg4 arg5 harg5 arg6 harg6 arg7 harg7 arg8 harg8 arg9 harg9 arg10 arg11 arg12 arg13 v14_r0 v2 t v15 v40 c5
      = tripB i arg2 arg4 arg5 arg6 harg6 arg7 harg7 arg8 harg8 arg9 harg9 arg10 arg11 arg12 arg13 t v40 c5 := by
  unfold k0_part22 tripB
  refine bind_congr2 (F := F) (for_congr fun t => ?_) fun _ => ?_
  · rfl
  refine bind_congr2 (F := F) ?_ fun _ => ?_
  · rfl
  refine jp_congr (F := F) (fun h => ?_) fun _ => ?_
  · rfl
  refine bind_congr2 (F := F) ?_ fun _ => ?_
  · rfl
  refine bind_congr2 (F := F) ?_ fun _ => ?_
  · rfl
  refine bind_congr2 (F := F) (for_congr fun t => ?_) fun _ => ?_
  · rfl
  rfl

end Cert.KernelIdeal.Tile
-- ==== Proof.TileEq.lean ====
/-
  The kernel's printed body is the program `Tile.tile`.
-/
module

public import proofs.«01_k».proof.Proof.TileParts

@[expose] public section

noncomputable section

namespace Cert.KernelIdeal.Tile

open Idealize.ShloMosaic Idealize.SL.Sem Cert.KernelIdeal Cert.KernelIdeal.Gen

variable {F : FTy → Type} [FloatOps F]

set_option maxRecDepth 65536 in
set_option maxHeartbeats 4000000 in
theorem body_eq (i : grid0.Coords) (arg2 : Memref sig .scVector .hbm S8192x4096 .f32) (harg2 : arg2.IsWhole) (arg3 : Memref sig .scVector .hbm S4096 .i32) (harg3 : arg3.IsWhole) (arg4 : Memref sig .scVector .hbm S8192x4096 .f32) (harg4 : arg4.IsWhole) (arg5 : Memref sig .scVector .vmem S4096 .i32) (harg5 : arg5.IsWhole) (arg6 : Memref sig .scVector .vmem S8x4096 .f32) (harg6 : arg6.IsWhole) (arg7 : Memref sig .scVector .vmem S8x4096 .f32) (harg7 : arg7.IsWhole) (arg8 : Memref sig .scVector .vmem S4x4096 .f32) (harg8 : arg8.IsWhole) (arg9 : Memref sig .scVector .vmem S4x4096 .f32) (harg9 : arg9.IsWhole) (arg10 arg11 arg12 arg13 v14_r0 : DmaSems sig S_) :
    cc0__sc_body (F := F) i arg2 harg2 arg3 harg3 arg4 harg4 arg5 harg5 arg6 harg6 arg7 harg7 arg8 harg8 arg9 harg9 arg10 arg11 arg12 arg13 v14_r0
      = tile i arg2 arg3 harg3 arg4 arg5 harg5 arg6 harg6 arg7 harg7 arg8 harg8 arg9 harg9 arg10 arg11 arg12 arg13 v14_r0 := by
  unfold cc0__sc_body tile
  refine bind_congr2 (F := F) ?_ fun _ => ?_
  · rfl
  refine bind_congr2 (F := F) ?_ fun _ => ?_
  · rfl
  refine bind_congr2 (F := F) ?_ fun _ => ?_
  · rfl
  refine bind_congr2 (F := F) (for_congr fun t => ?_) fun _ => ?_
  · unfold trip
    refine bind_congr2 (F := F) (part21_eq ..) fun p => ?_
    obtain ⟨v15, v40, c5⟩ := p
    refine bind_congr2 (F := F) (part22_eq ..) fun _ => ?_
    unfold tripC
    refine bind_congr2 (F := F) ?_ fun _ => ?_
    · rfl
    refine bind_congr2 (F := F) ?_ fun _ => ?_
    · rfl
    refine bind_congr2 (F := F) (for_congr fun t => ?_) fun _ => ?_
    · rfl
    rfl
  rfl

end Cert.KernelIdeal.Tile
-- ==== Proof.Launch.lean ====
/-
  The kernel's run on a device: the TensorCore deals the three arrays to the tiles of both
  SparseCores, every tile runs, and the arrays come back with `o` at the result.
-/
module

public import proofs.«01_k».proof.Proof.Body
public import proofs.«01_k».proof.Proof.Deal
public import proofs.«01_k».proof.Proof.TileEq

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A tile's buffers and counters -/

theorem bigSep_five {I : Type} [DecidableEq I] {s : Finset I} (f : Fin 5 → I) (hf : Function.Injective f) (h : ∀ k, f k ∈ s) (Φ : I → sProp 𝕄) :
    bigSep s Φ = iprop(Φ (f 0) ∗ Φ (f 1) ∗ Φ (f 2) ∗ Φ (f 3) ∗ Φ (f 4)
      ∗ bigSep (((((s.erase (f 0)).erase (f 1)).erase (f 2)).erase (f 3)).erase (f 4)) Φ) := by
  have ne : ∀ a b : Fin 5, a ≠ b → f a ≠ f b := fun _ _ n => hf.ne n
  have h0 := h 0
  have h1 := Finset.mem_erase.mpr ⟨ne 1 0 (by decide), h 1⟩
  have h2 := Finset.mem_erase.mpr ⟨ne 2 1 (by decide), Finset.mem_erase.mpr ⟨ne 2 0 (by decide), h 2⟩⟩
  have h3 := Finset.mem_erase.mpr ⟨ne 3 2 (by decide), Finset.mem_erase.mpr ⟨ne 3 1 (by decide), Finset.mem_erase.mpr ⟨ne 3 0 (by decide), h 3⟩⟩⟩
  have h4 := Finset.mem_erase.mpr ⟨ne 4 3 (by decide), Finset.mem_erase.mpr ⟨ne 4 2 (by decide), Finset.mem_erase.mpr ⟨ne 4 1 (by decide),
    Finset.mem_erase.mpr ⟨ne 4 0 (by decide), h 4⟩⟩⟩⟩
  rw [SparseCore.bigSep_erase' h0, SparseCore.bigSep_erase' h1, SparseCore.bigSep_erase' h2, SparseCore.bigSep_erase' h3, SparseCore.bigSep_erase' h4]

/-- The tile's five counters. -/
def sems : Fin 5 → DmaSem sig := ![cc0_scratch5.sem, cc0_scratch6.sem, cc0_scratch7.sem, cc0_scratch8.sem, cc0_scoped0.sem]
/-- The tile's five buffers. -/
def refs : Fin 5 → Ref sig .scVector := ![cc0_scratch0, cc0_scratch1, cc0_scratch2, cc0_scratch3, cc0_scratch4]

theorem sems_inj : Function.Injective sems := by decide
theorem refs_inj : Function.Injective refs := by decide

variable (d : Dev nD) (i : grid0.Coords)

/-- What else the tile has. -/
def restSems : sProp 𝕄 := bigSep ((((((ownCells (vt d i)).erase (vt d i, .dma (sems 0))).erase (vt d i, .dma (sems 1))).erase (vt d i, .dma (sems 2))).erase
  (vt d i, .dma (sems 3))).erase (vt d i, .dma (sems 4))) fun g => semVal g 0
def restBufs : sProp 𝕄 := bigSep ((((((ownRefs (τ := τ) (vt d i).2).erase ((vt d i).2.devRef (refs 0))).erase ((vt d i).2.devRef (refs 1))).erase
  ((vt d i).2.devRef (refs 2))).erase ((vt d i).2.devRef (refs 3))).erase ((vt d i).2.devRef (refs 4)))
  fun b => iprop(∃ f : Buf (Elt F) ((d, b) : Loc nD τ sig), ((d, b) : Loc nD τ sig) ↦{fullShare} f)

theorem ownSems_eq :
    (ownSems0 (vt d i) : sProp 𝕄) = iprop(semVal (vt d i, SemLoc.dma cc0_scratch5.sem) 0 ∗ semVal (vt d i, SemLoc.dma cc0_scratch6.sem) 0
      ∗ semVal (vt d i, SemLoc.dma cc0_scratch7.sem) 0 ∗ semVal (vt d i, SemLoc.dma cc0_scratch8.sem) 0 ∗ semVal (vt d i, SemLoc.dma cc0_scoped0.sem) 0 ∗ restSems d i) :=
  bigSep_five (fun k => ((vt d i, SemLoc.dma (sems k)) : GSem nD τ sig))
    (fun a b e => sems_inj (SemLoc.dma.inj (Prod.mk.inj e).2))
    (fun k => mem_ownCells.mpr ⟨rfl, show (SemLoc.dma (sems k) : SemLoc sig).isScoped .scVector = true by revert k; decide⟩) _

theorem ownBufs_eq :
    (ownBufs (vt d i) : sProp 𝕄) = iprop((∃ f : Buf (Elt F) ((vt d i).loc cc0_scratch0), (vt d i).loc cc0_scratch0 ↦{fullShare} f)
      ∗ (∃ f : Buf (Elt F) ((vt d i).loc cc0_scratch1), (vt d i).loc cc0_scratch1 ↦{fullShare} f) ∗ (∃ f : Buf (Elt F) ((vt d i).loc cc0_scratch2), (vt d i).loc cc0_scratch2 ↦{fullShare} f)
      ∗ (∃ f : Buf (Elt F) ((vt d i).loc cc0_scratch3), (vt d i).loc cc0_scratch3 ↦{fullShare} f) ∗ (∃ f : Buf (Elt F) ((vt d i).loc cc0_scratch4), (vt d i).loc cc0_scratch4 ↦{fullShare} f)
      ∗ restBufs d i) :=
  bigSep_five (fun k => (vt d i).2.devRef (refs k)) (fun a b e => refs_inj (Proc.devRef_injective _ e))
    (fun k => SparseCore.Cfg.mem_ownRefs_of_owner (p := (vt d i).2) (match k with | 0 => rfl | 1 => rfl | 2 => rfl | 3 => rfl | 4 => rfl)) _

/-- A whole buffer at some contents. -/
theorem holds_any (b : Ref sig .scVector) :
    (iprop(∃ f : Buf (Elt F) ((vt d i).loc b), (vt d i).loc b ↦{fullShare} f) : sProp 𝕄) ⊢ Holds d i (Memref.whole b) (fun _ => True) := by
  unfold Holds
  iintro ⟨%f, H⟩
  iexists f
  isplitr; · ipureintro; trivial
  iexact H

theorem any_holds (b : Ref sig .scVector) :
    (Holds d i (Memref.whole b) (fun _ => True) : sProp 𝕄) ⊢ iprop(∃ f : Buf (Elt F) ((vt d i).loc b), (vt d i).loc b ↦{fullShare} f) := by
  unfold Holds
  iintro ⟨%f, %_, H⟩
  iexists f
  iexact H

/-! ## The launch's payloads -/

variable (m : (ℓ : Loc nD τ sig) → Buf (Elt F) ℓ) (ρ : Dev nD → PrngReg)

/-- What the proof asks of the launch memory: every word of the list names a column. -/
def PreOK : Prop := ∀ (d : Dev nD) (j : S4096.Idx), ((m (pLoc d) : S4096.Idx → BitVec 32) j).toNat < 4096

/-- What tile `s` of SparseCore `c` takes (`n = 0`) and brings back (`n = 32`). -/
abbrev lot (n : Nat) (c : Fin 2) (s : Fin 16) : sProp 𝕄 := Lot d (m (xLoc d)) (m (pLoc d)) n c s

def P : (K (F := F)).Pay (nD := nD) (Val := Elt F) (Name := ℕ) (U := UU) where
  st := fun q d c => match q with | 0 => bigSep Finset.univ fun s : Fin 16 => lot d m 0 c s
  dn := fun q d c => match q with | 0 => bigSep Finset.univ fun s : Fin 16 => lot d m 32 c s
  go := fun q d c s => match q with | 0 => lot d m 0 c s
  td := fun q d c s => match q with | 0 => lot d m 32 c s
  x := fun _ _ => iprop(emp)

instance P_storable : (P (F := F) m).IsStorable where
  st q d c := match q with
    | 0 => (inferInstance : BI.Storable (upEmb : UEmb _ 𝕄) (bigSep Finset.univ fun s : Fin 16 => lot d m 0 c s))
  dn q d c := match q with
    | 0 => (inferInstance : BI.Storable (upEmb : UEmb _ 𝕄) (bigSep Finset.univ fun s : Fin 16 => lot d m 32 c s))
  go q d c s := match q with
    | 0 => (inferInstance : BI.Storable (upEmb : UEmb _ 𝕄) (lot d m 0 c s))
  td q d c s := match q with
    | 0 => (inferInstance : BI.Storable (upEmb : UEmb _ 𝕄) (lot d m 32 c s))

/-! ## A tile -/

abbrev pbuf : Memref sig .scVector .vmem S4096 .i32 := Memref.whole cc0_scratch0
abbrev in0 : Memref sig .scVector .vmem S8x4096 .f32 := Memref.whole cc0_scratch1
abbrev in1 : Memref sig .scVector .vmem S8x4096 .f32 := Memref.whole cc0_scratch2
abbrev outa : Memref sig .scVector .vmem S4x4096 .f32 := Memref.whole cc0_scratch3
abbrev outb : Memref sig .scVector .vmem S4x4096 .f32 := Memref.whole cc0_scratch4

/-- The tile's program as the launch calls it. -/
abbrev bodyAt : TP F i PUnit :=
  cc0__sc_body (F := F) i xW (Memref.isWhole_whole _) pW (Memref.isWhole_whole _) oW (Memref.isWhole_whole _) pbuf (Memref.isWhole_whole _)
    in0 (Memref.isWhole_whole _) in1 (Memref.isWhole_whole _) outa (Memref.isWhole_whole _) outb (Memref.isWhole_whole _)
    cc0_scratch5 cc0_scratch6 cc0_scratch7 cc0_scratch8 cc0_scoped0

theorem tile_body (hpre : PreOK m) (c : Fin 2) (s : Fin 16) (O : CellTallies nD τ sig (HIx 1)) (W : Waits sig (HIx 1)) (hO : ∀ g, O g none = 0) :
    (iprop(levAts (K (F := F)).L (K (F := F)).lev ∗ emp ∗ lot d m 0 c s
        ∗ scopedBufs (vt d (pos c s)) ∗ scopedSems0 (vt d (pos c s)) ∗ owes (vt d (pos c s)) O W) : sProp 𝕄)
      ⊢ Runs d (pos c s) (bodyAt (pos c s)) fun _ => iprop(lot d m 32 c s ∗ scopedBufs (vt d (pos c s)) ∗ scopedSems0 (vt d (pos c s))
          ∗ ∃ W', ⌜∀ p ∈ W', p ∈ W ∨ p.2 = none⌝ ∗ owes (vt d (pos c s)) O W') := by
  unfold bodyAt
  rw [body_eq, (K (F := F)).scopedBufs_V facts d _ _, SparseCore.Cfg.scopedSems0_V (Val := Elt F) d _ _, ownSems_eq d (pos c s), ownBufs_eq d (pos c s)]
  unfold lot Lot
  rw [← bind_pure (tile _ _ _ _ _ _ _ _ _ _ _ _ _ _ _ _ _ _ _ _)]
  iintro ⟨#Hlv, -, ⟨HL, HR, HP, H0, H1⟩, ⟨B0, B1, B2, B3, B4, HB⟩, ⟨S0, S1, S2, S3, S4, HS⟩, HO⟩
  ihave Hmw := ((K (F := F)).mayWaits_none (thr := vt d (pos c s)) hO) $$ Hlv
  ihave B0 := (holds_any d (pos c s) cc0_scratch0) $$ B0
  ihave B1 := (holds_any d (pos c s) cc0_scratch1) $$ B1
  ihave B2 := (holds_any d (pos c s) cc0_scratch2) $$ B2
  ihave B3 := (holds_any d (pos c s) cc0_scratch3) $$ B3
  ihave B4 := (holds_any d (pos c s) cc0_scratch4) $$ B4
  iapply (step (run_tile (F := F) (W := W) (hpre d))) $$ [HL HR HP H0 H1 B0 B1 B2 B3 B4 S0 S1 S2 S3 S4 HO Hmw]
  · isplitl [HL]; · iexact HL
    isplitl [HR]; · iexact HR
    isplitl [HP]; · iexact HP
    isplitl [H0]; · iexact H0
    isplitl [H1]; · iexact H1
    isplitl [B0]; · iexact B0
    isplitl [B1]; · iexact B1
    isplitl [B2]; · iexact B2
    isplitl [B3]; · iexact B3
    isplitl [B4]; · iexact B4
    isplitl [S0]; · iexact S0
    isplitl [S1]; · iexact S1
    isplitl [S2]; · iexact S2
    isplitl [S3]; · iexact S3
    isplitl [S4]; · iexact S4
    isplitl [HO]
    · unfold Owe
      iexists W
      isplitr; · ipureintro; exact fun p hp => .inl hp
      iexact HO
    · iexact Hmw
  iintro %_ ⟨HL, HR, HP, H0, H1, B0, B1, B2, B3, B4, S0, S1, S2, S3, S4, HO⟩
  ihave B0 := (any_holds d (pos c s) cc0_scratch0) $$ B0
  ihave B1 := (any_holds d (pos c s) cc0_scratch1) $$ B1
  ihave B2 := (any_holds d (pos c s) cc0_scratch2) $$ B2
  ihave B3 := (any_holds d (pos c s) cc0_scratch3) $$ B3
  ihave B4 := (any_holds d (pos c s) cc0_scratch4) $$ B4
  iapply (run_pure (F := F))
  isplitl [HL HR HP H0 H1]
  · isplitl [HL]; · iexact HL
    isplitl [HR]; · iexact HR
    isplitl [HP]; · iexact HP
    isplitl [H0]; · iexact H0
    iexact H1
  isplitl [B0 B1 B2 B3 B4 HB]
  · isplitl [B0]; · iexact B0
    isplitl [B1]; · iexact B1
    isplitl [B2]; · iexact B2
    isplitl [B3]; · iexact B3
    isplitl [B4]; · iexact B4
    iexact HB
  isplitl [S0 S1 S2 S3 S4 HS]
  · isplitl [S0]; · iexact S0
    isplitl [S1]; · iexact S1
    isplitl [S2]; · iexact S2
    isplitl [S3]; · iexact S3
    isplitl [S4]; · iexact S4
    iexact HS
  unfold Owe
  iexact HO

/-! ## The launch theorem's obligations -/

theorem defs₀_vector (c : Fin τ.nSC) (s : Fin τ.nSub) :
    defs₀ (F := F) (.scVector c s) 0 () = SparseCore.onTile hcore0 hsub0 (fun c s => bodyAt (F := F) (pos c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d m hpre ⟨_, hc.1⟩ ⟨_, hc.2⟩ O W hO).trans (wp_mono frame _ _ fun _ => obl_post)

theorem vecSplit : (K (F := F)).VecSplit' (P m) 0 := by
  intro d c
  show (bigSep Finset.univ fun s : Fin 16 => lot d m 0 c s) ⊢ |={Set.univ}=> iprop(
    (bigSep Finset.univ fun s : Fin 16 => lot d m 0 c s) ∗ ((bigSep Finset.univ fun s : Fin 16 => lot d m 32 c s) -∗ bigSep Finset.univ fun s : Fin 16 => lot d m 32 c s))
  iintro H; imodintro
  isplitl [H]; · iexact H
  iintro H; iexact H

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have emps : ∀ {I : Type} (s : Finset I), (bigSep s fun _ => iprop(emp)) = (iprop(emp) : sProp 𝕄) := fun s => bigSep_emp_const s
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## The TensorCore -/

theorem unscopedBufs_eq (W : (b : Ref sig .tc) → Buf (Elt F) ((d.tc : Thread nD τ).loc b)) :
    (unscopedBufs d W : sProp 𝕄) = iprop((xLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq : (bigSep Finset.univ fun c : Fin ((K (F := F)).nCore 0) => (P m).st 0 d c) = tiles (lot d m 0) := rfl
theorem dn0_eq : (bigSep Finset.univ fun c : Fin ((K (F := F)).nCore 0) => (P m).dn 0 d c) = tiles (lot d m 32) := rfl

/-- What the run leaves on device `d`. -/
abbrev FIN : sProp 𝕄 := iprop((xLoc d ↦{fullShare} m (xLoc d)) ∗ (pLoc d ↦{fullShare} m (pLoc d)) ∗ (oLoc d ↦{fullShare} result (m (xLoc d)) (m (pLoc d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN d m ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hp, Ho⟩, Hts, -⟩, -⟩
  ihave Hlots := (deal d (m (xLoc d)) (m (pLoc d)) (m (oLoc d))) $$ [Hx Hp Ho]
  · isplitl [Hx]; · iexact Hx
    isplitl [Hp]; · iexact Hp
    iexact Ho
  iapply ((K (F := F)).wp_run (D (F := F)) 𝒱 (EH := EH) (P := P m) κ d 0) $$ [Hst Hlots Hb Hts]
  isplitr; · iexact Hctx
  isplitl [Hst]; · iexact Hst
  isplitl [Hlots]
  · rw [st0_eq]
    iexact Hlots
  iintro ⟨Hst, Hdn⟩
  ihave Hdn' := (Entails.of_eq (dn0_eq d m)) $$ Hdn
  ihave Hfin := (gather d (m (xLoc d)) (m (pLoc d))) $$ Hdn'
  imodintro
  isplitl [Hst]; · iexact Hst
  isplitl [Hfin]; · iexact Hfin
  isplitl [Hb] <;> iassumption

/-- What a memory holds after the run, on device `d`. -/
def Final (d : Dev nD) (mem : (ℓ : Loc nD τ sig) → Buf (Elt F) ℓ) : Prop :=
  mem (xLoc d) = m (xLoc d) ∧ mem (pLoc d) = m (pLoc d) ∧ mem (oLoc d) = result (m (xLoc d)) (m (pLoc d))

theorem hfin (d : Dev nD) (s' : Phys nD τ sig (Elt F)) : iprop(FIN d m ∗ SI s') ⊢ (⌜Final m d s'.mem.mem⌝ : sProp 𝕄) := by
  iintro ⟨⟨Hx, Hp, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := result (m (xLoc d)) (m (pLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- What a run ends in. -/
def Ends : PUnit × MemSt nD τ sig (Elt F) → Prop := fun r => (∀ d : Dev nD, Final m d r.2.mem) ∧ r.2.sem = fun _ => 0

/-- Every execution of the kernel ends, with `x` and the list unchanged, `o` the result and every
    counter back at zero. -/
theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (fun d => FIN d m) (u₀ (F := F)) (sep_elim_left.trans (hu₀ m)) (hmain m ρ) (fun d s' => Final m d s'.mem.mem) (hfin m) (Ends m) (fun _ h hz => ⟨h, hz⟩)

end Cert.KernelIdeal.Tile
-- ==== Proof.Frames.lean ====
/-
  The kernel's frame on floating-point words.
-/
module

public import proofs.«01_k».proof.Proof.Launch
public import proofs.«01_k».proof.Proof.Gen.Kernel

@[expose] public section

noncomputable section

namespace Cert.KernelIdeal.Tile

open Idealize.ShloMosaic Idealize.SL.Sem

set_option maxRecDepth 65536 in
set_option maxHeartbeats 4000000 in
/-- The kernel runs from any memory whose list names columns; its arguments and every counter end as they began. -/
theorem frame_kernel (m : (ℓ : Loc Cert.Kernel.nD Cert.Kernel.τ Cert.Kernel.sig) → Buf (Elt Bits) ℓ) (g : Dev Cert.Kernel.nD → PrngReg)
    (hpre : PreOK (F := Bits) m) :
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  (θ_run Cert.KernelIdeal.defs _ _).mono (fun _ h => ⟨fun c => ⟨(h.1 c).1, (h.1 c).2.1⟩, h.2⟩) (run_main (F := Bits) m g hpre)

end Cert.KernelIdeal.Tile
-- ==== Proof.Range.lean ====
/-
  The precondition read element by element: every word of the list names a column.
-/
module

public import proofs.«01_k».proof.Defs
public import proofs.«01_k».proof.Proof.Gen.Pre_in_range
public import Idealize.ShloMosaic.Lib.ReduceAll

@[expose] public section

noncomputable section

namespace Cert.Range

open Idealize.ShloMosaic

variable {F : FTy → Type} [FloatOps F]

/-- A word that is at least 0 and below 4096, read signed, is below 4096 read unsigned. -/
theorem word_lt (w : BitVec 32) (h0 : (0#32).toInt ≤ w.toInt) (h1 : w.toInt < (4096#32).toInt) : w.toNat < 4096 := by
  have e0 : (0#32).toInt = 0 := by decide
  have e1 : (4096#32).toInt = 4096 := by decide
  rw [e0] at h0
  rw [e1] at h1
  rw [BitVec.toInt_eq_toNat_cond] at h0 h1
  split at h0 <;> omega

/-- Where `in_range` is one, every word of the list is a column's number. -/
theorem lt_of_pre (x : FVec F Cert.Pre_in_range.S8192x4096 .f32) (p : IVec Cert.Pre_in_range.S4096 32)
    (h : Cert.Pre_in_range.fn (F := F) x p = fun _ => 1#1) (j : Cert.Pre_in_range.S4096.Idx) : (p j).toNat < 4096 := by
  have h' := congrFun h (fun a => a.elim0)
  obtain ⟨hge, hlt⟩ := IntOp.andi_eq_one.1 h'
  haveI : Subsingleton Cert.Pre_in_range.S_.Idx := ⟨fun a b => funext fun k => k.elim0⟩
  have hge := IntOp.cmpi_sge.1 (Host.reduce_andi_all _ _ _ _ _ hge j)
  have hlt := IntOp.cmpi_slt.1 (Host.reduce_andi_all _ _ _ _ _ hlt j)
  exact word_lt (p j) hge hlt

end Cert.Range
-- ==== Proof.Reference.lean ====
/-
  The reference's value, index by index: where every word of the list names a column, entry `(r, j)` of the reference's
  result is entry `(r, p j)` of the array.
-/
module

public import proofs.«01_k».proof.Proof.Setup
public import proofs.«01_k».proof.Proof.Gen.ReferenceIdeal
public import Idealize.ShloMosaic.Lib.ReduceAll

@[expose] public section

noncomputable section

namespace Cert.ReferenceIdeal.Take

open Cert.ReferenceIdeal Cert.ReferenceIdeal.Gen
open Idealize.ShloMosaic
open Idealize.ShloMosaic.ValueIdx (ix1 ix2 eq_ix1 eq_ix2)

variable {F : FTy → Type} [FloatOps F]

/-- The gather's start word for the result's column `j`. -/
abbrev at0 (j : Fin 4096) : S4096x1.Idx := ix2 j ⟨0, Nat.one_pos⟩

/-- Each column of the result is the column of the array that its start word names, held inside the array. -/
theorem gather_apply (x : FVec F S8192x4096 .f32) (v : IVec S4096x1 32) (r : Fin 8192) (c : Fin 4096) :
    Host.gather gather_S8192x4096_S4096x1_S8192x4096_0_1_n_n_1_1_81921 x v (ix2 r c)
      = x (ix2 r ⟨min (v (at0 c)).toInt.toNat 4095, by omega⟩) := by
  unfold Host.gather
  congr 1
  funext a
  refine Fin.ext ?_
  let D := gather_S8192x4096_S4096x1_S8192x4096_0_1_n_n_1_1_81921
  let y : S8192x4096.Idx := ix2 r c
  have hb : ∀ a, D.batchCoord y a = 0 := fun a => GatherDims.batchCoord_eq_zero D _ _ List.not_mem_nil
  have h01 : a = 0 ∨ a = 1 := by
    match a with
    | ⟨0, _⟩ => exact Or.inl rfl
    | ⟨1, _⟩ => exact Or.inr rfl
  rcases h01 with rfl | rfl
  · have hs : D.start y v 0 = 0 := by
      unfold GatherDims.start
      exact dif_neg (by decide)
    have ho : D.offCoord y 0 = r.val := by
      unfold GatherDims.offCoord
      rw [dif_pos (show (0 : Fin 2) ∈ D.sKept from (GatherDims.mem_sKept _ _).mpr ⟨by decide, by decide⟩)]
      rfl
    show D.start y v 0 + D.batchCoord y 0 + D.offCoord y 0 = r.val
    rw [hs, hb 0, ho, Nat.zero_add]
  · have ho : D.offCoord y 1 = 0 :=
      GatherDims.offCoord_eq_zero D _ _ (fun h => ((GatherDims.mem_sKept _ _).mp h).1 (List.mem_singleton.mpr rfl))
    have hs : D.start y v 1 = min (v (at0 c)).toInt.toNat 4095 := by
      unfold GatherDims.start
      rw [dif_pos (show (1 : Fin 2) ∈ D.startIndexMap from List.mem_singleton.mpr rfl)]
      have hsi : D.siIdx y ⟨List.idxOf (1 : Fin 2) D.startIndexMap,
          List.idxOf_lt_length_iff.2 (List.mem_singleton.mpr rfl)⟩ = at0 c := by
        funext b
        refine Fin.ext ?_
        match b with
        | ⟨0, _⟩ => rfl
        | ⟨1, _⟩ => rfl
      rw [hsi]
      rfl
    show D.start y v 1 + D.batchCoord y 1 + D.offCoord y 1 = min (v (at0 c)).toInt.toNat 4095
    rw [hs, hb 1, ho, Nat.add_zero]

/-- The start words: the list with its negative words moved up by one turn. -/
abbrev starts (p : IVec S4096 32) : IVec S4096x1 32 :=
  broadcastInDim S4096x1 ![0] bcast_S4096_S4096x1_0
    (select (cmpi .slt p (broadcastInDim S4096 ![] bcast_S_S4096 (constantI S_ 32 0#32)))
      (addi p (broadcastInDim S4096 ![] bcast_S_S4096 (constantI S_ 32 4096#32))) p)

/-- A word that names a column is the same number signed and unsigned. -/
theorem word_nonneg (w : BitVec 32) (h : w.toNat < 4096) : w.toInt = (w.toNat : Int) := by
  rw [BitVec.toInt_eq_toNat_cond]
  split <;> omega

/-- A word that names a column is not negative: the choice leaves it. -/
theorem keep (w : BitVec 32) (h : w.toNat < 4096) (u : BitVec 32) : Scalar.select (IntOp.cmpi .slt w 0#32) u w = w := by
  have hn : ¬ IntOp.cmpi .slt w 0#32 = 1#1 := fun e => by
    have e := IntOp.cmpi_slt.1 e
    rw [word_nonneg _ h, show (0#32).toInt = 0 by decide] at e
    omega
  have h0 : IntOp.cmpi .slt w 0#32 = 0#1 := by
    generalize IntOp.cmpi .slt w 0#32 = b at hn
    revert b
    decide
  rw [h0]
  rfl

/-- Words that name columns are left as they are. -/
theorem starts_apply (p : IVec S4096 32) (hp : ∀ j, (p j).toNat < 4096) (i : S4096x1.Idx) : ∃ j, starts p i = p j :=
  ⟨_, keep _ (hp _) _⟩

/-- The start word for column `c` is word `c` of the list. -/
theorem starts_at (p : IVec S4096 32) (hp : ∀ j, (p j).toNat < 4096) (c : Fin 4096) : starts p (at0 c) = p (ix1 c) := by
  refine (keep _ (hp _) _).trans (congrArg p ?_)
  funext a
  match a with
  | ⟨0, _⟩ => rfl

/-- Every start word passes the reference's test of its range. -/
theorem mask_one (p : IVec S4096 32) (hp : ∀ j, (p j).toNat < 4096) (j : S4096.Idx) :
    Host.reduce IntOp.andi
      (andi (cmpi .sge (starts p) (broadcastInDim S4096x1 ![] bcast_S_S4096x1 (constantI S_ 32 0#32)))
        (cmpi .sle (starts p) (broadcastInDim S4096x1 ![0, 1] bcast_S1x1_S4096x1_0_1 (broadcastInDim S1x1 ![1] bcast_S1_S1x1_1 (constantI S1 32 4095#32)))))
      (constantI S_ 1 1#1) reducesTo_S4096x1_S4096_d1 h_S_ j = 1#1 := by
  refine Host.reduce_andi_one _ _ _ _ j rfl fun i => ?_
  obtain ⟨j', hs⟩ := starts_apply p hp i
  have hw := hp j'
  refine IntOp.andi_eq_one.2 ⟨IntOp.cmpi_sge.2 ?_, IntOp.cmpi_sle.2 ?_⟩
  · show (0#32).toInt ≤ (starts p i).toInt
    rw [hs, word_nonneg _ hw, show (0#32).toInt = 0 by decide]
    omega
  · show (starts p i).toInt ≤ (4095#32).toInt
    rw [hs, word_nonneg _ hw, show (4095#32).toInt = 4095 by decide]
    omega

/-- The reference's result is the kernel's. -/
theorem value (x : FVec F S8192x4096 .f32) (p : IVec S4096 32) (hp : ∀ j, (p j).toNat < 4096) (z : FVec F S8192x4096 .f32) :
    select (broadcastInDim S8192x4096 ![1] bcast_S4096_S8192x4096_1
        (Host.reduce IntOp.andi
          (andi (cmpi .sge (starts p) (broadcastInDim S4096x1 ![] bcast_S_S4096x1 (constantI S_ 32 0#32)))
            (cmpi .sle (starts p) (broadcastInDim S4096x1 ![0, 1] bcast_S1x1_S4096x1_0_1 (broadcastInDim S1x1 ![1] bcast_S1_S1x1_1 (constantI S1 32 4095#32)))))
          (constantI S_ 1 1#1) reducesTo_S4096x1_S4096_d1 h_S_))
      (Host.gather gather_S8192x4096_S4096x1_S8192x4096_0_1_n_n_1_1_81921 x (starts p)) z
      = Cert.KernelIdeal.Tile.result x p := by
  funext y
  obtain ⟨r, c, rfl⟩ : ∃ (r : Fin 8192) (c : Fin 4096), y = ix2 r c := ⟨y 0, y 1, eq_ix2 y⟩
  show Scalar.select (Host.reduce IntOp.andi _ _ _ _ _) _ _ = _
  rw [mask_one p hp]
  show Host.gather gather_S8192x4096_S4096x1_S8192x4096_0_1_n_n_1_1_81921 x (starts p) (ix2 r c) = x (ix2 r (Cert.KernelIdeal.Tile.col p c))
  rw [gather_apply]
  refine congrArg (fun k => x (ix2 r k)) (Fin.ext ?_)
  have hw := hp (ix1 c)
  show min (starts p (at0 c)).toInt.toNat 4095 = (p (ix1 c)).toNat % 4096
  rw [starts_at p hp, word_nonneg _ hw]
  omega

end Cert.ReferenceIdeal.Take
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Range
public import proofs.«01_k».proof.Proof.Reference
public import Idealize.ShloMosaic.Adequacy
public import Idealize.ShloMosaic.Init

@[expose] public section

noncomputable section

namespace Cert.Proof

open Idealize.ShloMosaic Idealize.SL.Sem
open Cert.KernelIdeal.Tile (run_main frame_kernel result)

/-- Every element type has a value. -/
instance (e : EltTy) : Nonempty (Elt Ideal e) := by
  cases e <;> exact ⟨Classical.choice inferInstance⟩

/-- The kernel runs on floating-point words, leaves its arguments and ends with every counter at zero. -/
theorem frame_p : Cert.quiescent_Kernel := fun m g hpre =>
  frame_kernel m g fun d j => Cert.Range.lt_of_pre _ _ (hpre d) j

/-- So it does over the extended reals. -/
theorem frame_pi : Cert.quiescent_KernelIdeal := fun m g hpre =>
  (θ_run Cert.KernelIdeal.defs _ _).mono (fun _ h => ⟨fun c => ⟨(h.1 c).1, (h.1 c).2.1⟩, h.2⟩)
    (run_main (F := Ideal) m g fun d j => Cert.Range.lt_of_pre _ _ (hpre d) j)

/-- The reference runs and leaves its arguments; it has no counter. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Both end with the array's columns in the order that the list names. -/
theorem value : Cert.algebraic_KernelIdeal_ReferenceIdeal := by
  intro m g m' g' hpre hagree
  have hok : ∀ d j, _ := fun d j => Cert.Range.lt_of_pre _ _ (hpre d) j
  refine ⟨fun c => result (F := Ideal) (m (Cert.KernelIdeal.Tile.xLoc c)) (m (Cert.KernelIdeal.Tile.pLoc c)), ?_, ?_⟩
  · exact (θ_run Cert.KernelIdeal.defs _ _).mono (fun _ h c => ⟨(h.1 c).2.2, (h.1 c).1, (h.1 c).2.1⟩)
      (run_main (F := Ideal) m g hok)
  · refine (θ_run Cert.ReferenceIdeal.defs _ _).mono (fun r h c => ⟨(h c).1.trans ?_, (h c).2⟩)
      (Cert.ReferenceIdeal.Value.run (F := Ideal) m' g')
    rw [(hagree c).1, (hagree c).2]
    exact Cert.ReferenceIdeal.Take.value (F := Ideal) _ _ (hok c) _

/-- All five claims. -/
theorem claim : Cert.Claim :=
  ⟨Cert.Kernel.Gen.facts, Cert.KernelIdeal.Gen.facts, Cert.ReferenceIdeal.Gen.facts, Cert.Pre_in_range.Gen.facts,
    frame_p, frame_pi, frame_ri, trivial, value⟩

end Cert.Proof

end
